-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_v19) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S256x100000 : Shape := ⟨2, ![256, 100000]⟩
abbrev S256 : Shape := ⟨1, ![256]⟩
abbrev S256x32 : Shape := ⟨2, ![256, 32]⟩
abbrev S64x4 : Shape := ⟨2, ![64, 4]⟩
abbrev S_ : Shape := ⟨0, ![]⟩
abbrev S64x1 : Shape := ⟨2, ![64, 1]⟩
abbrev S64 : Shape := ⟨1, ![64]⟩
abbrev S64x3 : Shape := ⟨2, ![64, 3]⟩

class Facts : Prop where
  shapeCasts_S256_S64x4 : S256.ShapeCasts S64x4
  bcast_S_S256x100000 : S_.BroadcastsInDim S256x100000 (![] : Fin 0 → Fin S256x100000.rank)
  reducesTo_S256x100000_S_d0_1 : S256x100000.ReducesTo [0, 1] S_
  h_S_ : 0 < S_.numel
  slices_S64x4_S64x1_0_0 : S64x4.Slices ![0, 0] S64x1
  shapeCasts_S64x1_S64 : S64x1.ShapeCasts S64
  bcast_S_S64 : S_.BroadcastsInDim S64 (![] : Fin 0 → Fin S64.rank)
  reducesTo_S64_S_d0 : S64.ReducesTo [0] S_
  slices_S64x4_S64x3_0_1 : S64x4.Slices ![0, 1] S64x3
  bcast_S_S64x3 : S_.BroadcastsInDim S64x3 (![] : Fin 0 → Fin S64x3.rank)
  bcast_S64x1_S64x3_0_1 : S64x1.BroadcastsInDim S64x3 (![0, 1] : Fin 2 → Fin S64x3.rank)
  reducesTo_S64x3_S_d0_1 : S64x3.ReducesTo [0, 1] S_

variable [Facts]

def fn_part1 {F : FTy → Type} [FloatOps F] (main_v11 : IVec S_ 1) (main_v17 : IVec S64x3 1) (main_c_3 : IVec S_ 1) : IVec S_ 1 :=
  let main_v18 : IVec S_ 1 := (fun x v => Host.reduce IntOp.andi x v reducesTo_S64x3_S_d0_1 h_S_) main_v17 main_c_3
  let main_v19 : IVec S_ 1 := andi main_v11 main_v18
  main_v19

def fn {F : FTy → Type} [FloatOps F] (main_arg0 : FVec F S256x100000 .f32) (main_arg1 : FVec F S256 .f32) (main_arg2 : IVec S256x32 32) : IVec S_ 1 :=
  let main_v0 : FVec F S64x4 .f32 := shapeCast S64x4 main_arg1 shapeCasts_S256_S64x4
  let main_v1 : FVec F S256x100000 .f32 := Host.absf main_arg0
  let main_cst : FVec F S_ .f32 := constant S_ .f32 0x4DBEBC20#32
  let main_v2 : FVec F S256x100000 .f32 := broadcastInDim S256x100000 ![] bcast_S_S256x100000 main_cst
  let main_v3 : IVec S256x100000 1 := cmpf .ole main_v1 main_v2
  let main_c : IVec S_ 1 := constantI S_ 1 1#1
  let main_v4 : IVec S_ 1 := (fun x v => Host.reduce IntOp.andi x v reducesTo_S256x100000_S_d0_1 h_S_) main_v3 main_c
  let main_v5 : FVec F S64x1 .f32 := (extractStridedSlice S64x1 ![0, 0] · slices_S64x4_S64x1_0_0) main_v0
  let main_v6 : FVec F S64 .f32 := shapeCast S64 main_v5 shapeCasts_S64x1_S64
  let main_v7 : FVec F S64 .f32 := Host.absf main_v6
  let main_cst_0 : FVec F S_ .f32 := constant S_ .f32 0x7149F2CA#32
  let main_v8 : FVec F S64 .f32 := broadcastInDim S64 ![] bcast_S_S64 main_cst_0
  let main_v9 : IVec S64 1 := cmpf .ole main_v7 main_v8
  let main_c_1 : IVec S_ 1 := constantI S_ 1 1#1
  let main_v10 : IVec S_ 1 := (fun x v => Host.reduce IntOp.andi x v reducesTo_S64_S_d0 h_S_) main_v9 main_c_1
  let main_v11 : IVec S_ 1 := andi main_v4 main_v10
  let main_v12 : FVec F S64x3 .f32 := (extractStridedSlice S64x3 ![0, 1] · slices_S64x4_S64x3_0_1) main_v0
  let main_cst_2 : FVec F S_ .f32 := constant S_ .f32 0x4E6E6B28#32
  let main_v13 : FVec F S64x3 .f32 := broadcastInDim S64x3 ![] bcast_S_S64x3 main_cst_2
  let main_v14 : FVec F S64x3 .f32 := addf main_v12 main_v13
  let main_v15 : FVec F S64x1 .f32 := (extractStridedSlice S64x1 ![0, 0] · slices_S64x4_S64x1_0_0) main_v0
  let main_v16 : FVec F S64x3 .f32 := broadcastInDim S64x3 ![0, 1] bcast_S64x1_S64x3_0_1 main_v15
  let main_v17 : IVec S64x3 1 := cmpf .ole main_v14 main_v16
  let main_c_3 : IVec S_ 1 := constantI S_ 1 1#1
  fn_part1 (F := F) main_v11 main_v17 main_c_3
-- ==== Kernel.lean ====
abbrev S256x100000 : Shape := ⟨2, ![256, 100000]⟩
abbrev S256 : Shape := ⟨1, ![256]⟩
abbrev S256x32 : Shape := ⟨2, ![256, 32]⟩
abbrev S64x4x200x500 : Shape := ⟨4, ![64, 4, 200, 500]⟩
abbrev S64x4 : Shape := ⟨2, ![64, 4]⟩
abbrev S64x1 : Shape := ⟨2, ![64, 1]⟩
abbrev S64x1x1 : Shape := ⟨3, ![64, 1, 1]⟩
abbrev S64x1x8 : Shape := ⟨3, ![64, 1, 8]⟩
abbrev S8x1x200x500 : Shape := ⟨4, ![8, 1, 200, 500]⟩
abbrev S8x1x1 : Shape := ⟨3, ![8, 1, 1]⟩
abbrev S8x1x8 : Shape := ⟨3, ![8, 1, 8]⟩
abbrev S8x200x500 : Shape := ⟨3, ![8, 200, 500]⟩
abbrev S8x200 : Shape := ⟨2, ![8, 200]⟩
abbrev S8x200x1 : Shape := ⟨3, ![8, 200, 1]⟩
abbrev S8x1 : Shape := ⟨2, ![8, 1]⟩
abbrev S8x1x500 : Shape := ⟨3, ![8, 1, 500]⟩
abbrev S8x500 : Shape := ⟨2, ![8, 500]⟩
abbrev S8x8x500 : Shape := ⟨3, ![8, 8, 500]⟩
abbrev S8x8x1 : Shape := ⟨3, ![8, 8, 1]⟩
abbrev S8x8 : Shape := ⟨2, ![8, 8]⟩
abbrev S64x8 : Shape := ⟨2, ![64, 8]⟩
abbrev S64x128 : Shape := ⟨2, ![64, 128]⟩
abbrev S64x132 : Shape := ⟨2, ![64, 132]⟩
abbrev S64 : Shape := ⟨1, ![64]⟩
abbrev S64x32 : Shape := ⟨2, ![64, 32]⟩
abbrev S256x33 : Shape := ⟨2, ![256, 33]⟩

abbrev nBuf : Space → Nat
  | .hbm => 18
  | .vmem => 15
  | .smem => 0
  | _ => 0

abbrev bufTy : (tb : Table) → Fin (tcTables nBuf tb) → BufTy
  | .hbm, ⟨0, _⟩ => ⟨S256x100000, .f32⟩
  | .hbm, ⟨1, _⟩ => ⟨S256, .f32⟩
  | .hbm, ⟨2, _⟩ => ⟨S256x32, .i32⟩
  | .hbm, ⟨3, _⟩ => ⟨S64x4x200x500, .f32⟩
  | .hbm, ⟨4, _⟩ => ⟨S64x4, .f32⟩
  | .hbm, ⟨5, _⟩ => ⟨S64x1, .f32⟩
  | .hbm, ⟨6, _⟩ => ⟨S64x1x1, .f32⟩
  | .hbm, ⟨7, _⟩ => ⟨S64x1x8, .f32⟩
  | .hbm, ⟨8, _⟩ => ⟨S64x1x8, .i32⟩
  | .hbm, ⟨9, _⟩ => ⟨S64x8, .f32⟩
  | .hbm, ⟨10, _⟩ => ⟨S64x8, .i32⟩
  | .hbm, ⟨11, _⟩ => ⟨S64x128, .i32⟩
  | .hbm, ⟨12, _⟩ => ⟨S64x8, .f32⟩
  | .hbm, ⟨13, _⟩ => ⟨S64x8, .i32⟩
  | .hbm, ⟨14, _⟩ => ⟨S64x4, .f32⟩
  | .hbm, ⟨15, _⟩ => ⟨S64x132, .i32⟩
  | .hbm, ⟨16, _⟩ => ⟨S256, .f32⟩
  | .hbm, ⟨17, _⟩ => ⟨S256x33, .i32⟩
  | .local _ .vmem, ⟨0, _⟩ => ⟨S8x1x200x500, .f32⟩
  | .local _ .vmem, ⟨1, _⟩ => ⟨S8x1x200x500, .f32⟩
  | .local _ .vmem, ⟨2, _⟩ => ⟨S8x1x1, .f32⟩
  | .local _ .vmem, ⟨3, _⟩ => ⟨S8x1x1, .f32⟩
  | .local _ .vmem, ⟨4, _⟩ => ⟨S8x1x8, .f32⟩
  | .local _ .vmem, ⟨5, _⟩ => ⟨S8x1x8, .f32⟩
  | .local _ .vmem, ⟨6, _⟩ => ⟨S8x1x8, .i32⟩
  | .local _ .vmem, ⟨7, _⟩ => ⟨S8x1x8, .i32⟩
  | .local _ .vmem, ⟨8, _⟩ => ⟨S64x8, .f32⟩
  | .local _ .vmem, ⟨9, _⟩ => ⟨S64x8, .i32⟩
  | .local _ .vmem, ⟨10, _⟩ => ⟨S64x128, .i32⟩
  | .local _ .vmem, ⟨11, _⟩ => ⟨S64x8, .f32⟩
  | .local _ .vmem, ⟨12, _⟩ => ⟨S64x8, .i32⟩
  | .local _ .vmem, ⟨13, _⟩ => ⟨S64x4, .f32⟩
  | .local _ .vmem, ⟨14, _⟩ => ⟨S64x132, .i32⟩
  | _, _ => ⟨S256x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1x200x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1x8 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := .none

abbrev stage1_0 : Fin 1 → Memref sig .tc .vmem S64x8 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S64x8 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S64x128 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S64x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S64x8 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S64x4 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S64x132 .i32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
-- ==== ReferenceIdeal.lean ====
abbrev S256x100000 : Shape := ⟨2, ![256, 100000]⟩
abbrev S256 : Shape := ⟨1, ![256]⟩
abbrev S256x32 : Shape := ⟨2, ![256, 32]⟩
abbrev S_ : Shape := ⟨0, ![]⟩
abbrev S256x1 : Shape := ⟨2, ![256, 1]⟩
abbrev S64x400000 : Shape := ⟨2, ![64, 400000]⟩
abbrev S64x8 : Shape := ⟨2, ![64, 8]⟩
abbrev S64x4 : Shape := ⟨2, ![64, 4]⟩
abbrev S64 : Shape := ⟨1, ![64]⟩
abbrev S64x1 : Shape := ⟨2, ![64, 1]⟩
abbrev S1 : Shape := ⟨1, ![1]⟩
abbrev S1x1 : Shape := ⟨2, ![1, 1]⟩
abbrev S256x33 : Shape := ⟨2, ![256, 33]⟩

abbrev nBuf : Space → Nat
  | .hbm => 101
  | .vmem => 0
  | .smem => 0
  | _ => 0

abbrev bufTy : (tb : Table) → Fin (tcTables nBuf tb) → BufTy
  | .hbm, ⟨0, _⟩ => ⟨S256x100000, .f32⟩
  | .hbm, ⟨1, _⟩ => ⟨S256, .f32⟩
  | .hbm, ⟨2, _⟩ => ⟨S256x32, .i32⟩
  | .hbm, ⟨3, _⟩ => ⟨S_, .f32⟩
  | .hbm, ⟨4, _⟩ => ⟨S256, .f32⟩
  | .hbm, ⟨5, _⟩ => ⟨S_, .f32⟩
  | .hbm, ⟨6, _⟩ => ⟨S256, .f32⟩
  | .hbm, ⟨7, _⟩ => ⟨S256, .f32⟩
  | .hbm, ⟨8, _⟩ => ⟨S256x1, .f32⟩
  | .hbm, ⟨9, _⟩ => ⟨S256x100000, .f32⟩
  | .hbm, ⟨10, _⟩ => ⟨S256x100000, .f32⟩
  | .hbm, ⟨11, _⟩ => ⟨S256x100000, .f32⟩
  | .hbm, ⟨12, _⟩ => ⟨S_, .f32⟩
  | .hbm, ⟨13, _⟩ => ⟨S256, .f32⟩
  | .hbm, ⟨14, _⟩ => ⟨S256x1, .f32⟩
  | .hbm, ⟨15, _⟩ => ⟨S256x1, .f32⟩
  | .hbm, ⟨16, _⟩ => ⟨S256x100000, .f32⟩
  | .hbm, ⟨17, _⟩ => ⟨S256x100000, .f32⟩
  | .hbm, ⟨18, _⟩ => ⟨S256x1, .f32⟩
  | .hbm, ⟨19, _⟩ => ⟨S256x100000, .f32⟩
  | .hbm, ⟨20, _⟩ => ⟨S256x100000, .f32⟩
  | .hbm, ⟨21, _⟩ => ⟨S64x400000, .f32⟩
  | .hbm, ⟨22, _⟩ => ⟨S64x8, .f32⟩
  | .hbm, ⟨23, _⟩ => ⟨S64x8, .i32⟩
  | .hbm, ⟨24, _⟩ => ⟨S_, .i32⟩
  | .hbm, ⟨25, _⟩ => ⟨S_, .i32⟩
  | .hbm, ⟨26, _⟩ => ⟨S64x8, .i32⟩
  | .hbm, ⟨27, _⟩ => ⟨S64x8, .i32⟩
  | .hbm, ⟨28, _⟩ => ⟨S64x8, .i32⟩
  | .hbm, ⟨29, _⟩ => ⟨S_, .i32⟩
  | .hbm, ⟨30, _⟩ => ⟨S64x8, .i32⟩
  | .hbm, ⟨31, _⟩ => ⟨S64x8, .i1⟩
  | .hbm, ⟨32, _⟩ => ⟨S64x8, .i32⟩
  | .hbm, ⟨33, _⟩ => ⟨S64x8, .i32⟩
  | .hbm, ⟨34, _⟩ => ⟨S_, .i32⟩
  | .hbm, ⟨35, _⟩ => ⟨S64x8, .i32⟩
  | .hbm, ⟨36, _⟩ => ⟨S64x8, .i1⟩
  | .hbm, ⟨37, _⟩ => ⟨S64x8, .i1⟩
  | .hbm, ⟨38, _⟩ => ⟨S_, .i32⟩
  | .hbm, ⟨39, _⟩ => ⟨S64x8, .i32⟩
  | .hbm, ⟨40, _⟩ => ⟨S64x8, .i32⟩
  | .hbm, ⟨41, _⟩ => ⟨S64x8, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S64x8, .i32⟩
  | .hbm, ⟨49, _⟩ => ⟨S64x8, .i32⟩
  | .hbm, ⟨50, _⟩ => ⟨S_, .i32⟩
  | .hbm, ⟨51, _⟩ => ⟨S64x8, .i32⟩
  | .hbm, ⟨52, _⟩ => ⟨S64x8, .i1⟩
  | .hbm, ⟨53, _⟩ => ⟨S_, .i32⟩
  | .hbm, ⟨54, _⟩ => ⟨S64x8, .i32⟩
  | .hbm, ⟨55, _⟩ => ⟨S64x8, .i1⟩
  | .hbm, ⟨56, _⟩ => ⟨S_, .i32⟩
  | .hbm, ⟨57, _⟩ => ⟨S_, .i1⟩
  | .hbm, ⟨58, _⟩ => ⟨S64x8, .i1⟩
  | .hbm, ⟨59, _⟩ => ⟨S64x8, .i1⟩
  | .hbm, ⟨60, _⟩ => ⟨S64x8, .i1⟩
  | .hbm, ⟨61, _⟩ => ⟨S64x8, .i32⟩
  | .hbm, ⟨62, _⟩ => ⟨S64x8, .i32⟩
  | .hbm, ⟨63, _⟩ => ⟨S64x8, .i32⟩
  | .hbm, ⟨64, _⟩ => ⟨S64x4, .f32⟩
  | .hbm, ⟨65, _⟩ => ⟨S64x4, .i32⟩
  | .hbm, ⟨66, _⟩ => ⟨S64x4, .i32⟩
  | .hbm, ⟨67, _⟩ => ⟨S64, .i32⟩
  | .hbm, ⟨68, _⟩ => ⟨S64x1, .i32⟩
  | .hbm, ⟨69, _⟩ => ⟨S_, .i32⟩
  | .hbm, ⟨70, _⟩ => ⟨S64x1, .i32⟩
  | .hbm, ⟨71, _⟩ => ⟨S64x1, .i32⟩
  | .hbm, ⟨72, _⟩ => ⟨S64x4, .i32⟩
  | .hbm, ⟨73, _⟩ => ⟨S64x4, .i32⟩
  | .hbm, ⟨74, _⟩ => ⟨S256, .i32⟩
  | .hbm, ⟨75, _⟩ => ⟨S_, .i32⟩
  | .hbm, ⟨76, _⟩ => ⟨S256, .i32⟩
  | .hbm, ⟨77, _⟩ => ⟨S256, .i1⟩
  | .hbm, ⟨78, _⟩ => ⟨S_, .i32⟩
  | .hbm, ⟨79, _⟩ => ⟨S256, .i32⟩
  | .hbm, ⟨80, _⟩ => ⟨S256, .i32⟩
  | .hbm, ⟨81, _⟩ => ⟨S256, .i32⟩
  | .hbm, ⟨82, _⟩ => ⟨S256x1, .i32⟩
  | .hbm, ⟨83, _⟩ => ⟨S1, .i32⟩
  | .hbm, ⟨84, _⟩ => ⟨S_, .i32⟩
  | .hbm, ⟨85, _⟩ => ⟨S256x1, .i32⟩
  | .hbm, ⟨86, _⟩ => ⟨S256x1, .i1⟩
  | .hbm, ⟨87, _⟩ => ⟨S1x1, .i32⟩
  | .hbm, ⟨88, _⟩ => ⟨S256x1, .i32⟩
  | .hbm, ⟨89, _⟩ => ⟨S256x1, .i1⟩
  | .hbm, ⟨90, _⟩ => ⟨S256x1, .i1⟩
  | .hbm, ⟨91, _⟩ => ⟨S_, .i1⟩
  | .hbm, ⟨92, _⟩ => ⟨S256, .i1⟩
  | .hbm, ⟨93, _⟩ => ⟨S256x32, .i32⟩
  | .hbm, ⟨94, _⟩ => ⟨S256x32, .i1⟩
  | .hbm, ⟨95, _⟩ => ⟨S_, .i32⟩
  | .hbm, ⟨96, _⟩ => ⟨S256x32, .i32⟩
  | .hbm, ⟨97, _⟩ => ⟨S256x32, .i32⟩
  | .hbm, ⟨98, _⟩ => ⟨S256x1, .i32⟩
  | .hbm, ⟨99, _⟩ => ⟨S256x33, .i32⟩
  | .hbm, ⟨100, _⟩ => ⟨S256, .f32⟩
  | _, _ => ⟨S256x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_values : Ref sig .tc := ⟨.hbm, 22, rfl⟩
abbrev main_indices : Ref sig .tc := ⟨.hbm, 23, rfl⟩
abbrev main_c : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_c : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_0 : Ref sig .tc := ⟨.hbm, 38, rfl⟩
abbrev main_call1_v12 : Ref sig .tc := ⟨.hbm, 39, rfl⟩
abbrev main_call1_v13 : Ref sig .tc := ⟨.hbm, 40, rfl⟩
abbrev main_v5 : Ref sig .tc := ⟨.hbm, 41, rfl⟩
abbrev main_c_0 : Ref sig .tc := ⟨.hbm, 42, rfl⟩
abbrev main_call2_v0 : Ref sig .tc := ⟨.hbm, 43, rfl⟩
abbrev main_call2_c : Ref sig .tc := ⟨.hbm, 44, rfl⟩
abbrev main_call2_v1 : Ref sig .tc := ⟨.hbm, 45, rfl⟩
abbrev main_call2_c_0 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_c_1 : Ref sig .tc := ⟨.hbm, 50, rfl⟩
abbrev main_call2_v5 : Ref sig .tc := ⟨.hbm, 51, rfl⟩
abbrev main_call2_v6 : Ref sig .tc := ⟨.hbm, 52, rfl⟩
abbrev main_call2_c_2 : Ref sig .tc := ⟨.hbm, 53, rfl⟩
abbrev main_call2_v7 : Ref sig .tc := ⟨.hbm, 54, rfl⟩
abbrev main_call2_v8 : Ref sig .tc := ⟨.hbm, 55, rfl⟩
abbrev main_call2_c_3 : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_v12 : Ref sig .tc := ⟨.hbm, 60, rfl⟩
abbrev main_call2_v13 : Ref sig .tc := ⟨.hbm, 61, rfl⟩
abbrev main_call2_v14 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_c_1 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_call3_c : Ref sig .tc := ⟨.hbm, 75, rfl⟩
abbrev main_call3_v0 : Ref sig .tc := ⟨.hbm, 76, rfl⟩
abbrev main_call3_v1 : Ref sig .tc := ⟨.hbm, 77, rfl⟩
abbrev main_call3_c_0 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_v5 : Ref sig .tc := ⟨.hbm, 82, rfl⟩
abbrev main_call3_c_1 : Ref sig .tc := ⟨.hbm, 83, rfl⟩
abbrev main_call3_c_2 : Ref sig .tc := ⟨.hbm, 84, rfl⟩
abbrev main_call3_v6 : Ref sig .tc := ⟨.hbm, 85, rfl⟩
abbrev main_call3_v7 : Ref sig .tc := ⟨.hbm, 86, rfl⟩
abbrev main_call3_v8 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_c_3 : Ref sig .tc := ⟨.hbm, 91, rfl⟩
abbrev main_call3_v12 : Ref sig .tc := ⟨.hbm, 92, rfl⟩
abbrev main_call3_v13 : Ref sig .tc := ⟨.hbm, 93, rfl⟩
abbrev main_call3_v14 : Ref sig .tc := ⟨.hbm, 94, rfl⟩
abbrev main_call3_c_4 : Ref sig .tc := ⟨.hbm, 95, rfl⟩
abbrev main_call3_v15 : Ref sig .tc := ⟨.hbm, 96, rfl⟩
abbrev main_v17 : Ref sig .tc := ⟨.hbm, 97, rfl⟩
abbrev main_v18 : Ref sig .tc := ⟨.hbm, 98, rfl⟩
abbrev main_v19 : Ref sig .tc := ⟨.hbm, 99, rfl⟩
abbrev main_v20 : Ref sig .tc := ⟨.hbm, 100, rfl⟩

abbrev nD : Nat := 1
abbrev τ : Topo := Topo.v7x

variable {F : FTy → Type} [FloatOps F]
-- ==== Proof.KernelRun.lean ====
/- A run of the kernel's program: where it ends, each result holds what the last boundary of the run says, and the
   arguments are unchanged. -/
module

public import proofs.«01_k».proof.Proof.Gen.KernelIdeal.Frame

@[expose] public section

noncomputable section

namespace Cert.Proof.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with all buffers at the last boundary's contents. -/
theorem run : θ_run defs (onTc (τ := τ) (main (F := F))) ⟨m, fun _ => 0, ρ⟩ (fun r => ∀ c : Dev nD,
      r.2.mem ((c.tc : Thread nD τ).loc main_v8_0) = W5 m ρ c (Proc.devRef .tc main_v8_0)
      ∧ r.2.mem ((c.tc : Thread nD τ).loc main_v8_1) = W5 m ρ c (Proc.devRef .tc main_v8_1)
      ∧ r.2.mem ((c.tc : Thread nD τ).loc main_v9) = W5 m ρ c (Proc.devRef .tc main_v9)
      ∧ r.2.mem ((c.tc : Thread nD τ).loc main_v10) = W5 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c =>
      ⟨h c _ (mem_uc main_v8_0 (by decide)), h c _ (mem_uc main_v8_1 (by decide)), h c _ (mem_uc main_v9 (by decide)),
       h c _ (mem_uc main_v10 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.Proof.KernelRun

end
-- ==== Proof.ScanOps.lean ====
/- The vector operations of one step of the scan kernel, named after what they do. A block is 8 batch rows of 200 chunks
   of 500 scores. -/
module

public import proofs.«01_k».proof.Proof.Gen.KernelIdeal.Skeleton

@[expose] public section

noncomputable section

namespace Cert.Proof.Scan

open Idealize.ShloMosaic Cert.KernelIdeal Cert.KernelIdeal.Gen

variable {F : FTy → Type} [FloatOps F]

/-- The greatest of each row's chunk maxima. -/
def chunkTop (w : FVec F S8x200x1 .f32) : FVec F S8x1x1 .f32 :=
  shapeCast S8x1x1 (multiReduction .maximumf [1] S8x1 w 0xFF800000#32 reduces_S8x200x1_S8x1 (.inl rfl) rfl) shapeCasts_S8x1_S8x1x1

/-- The number of the first chunk that holds it. -/
def chunkPick (w : FVec F S8x200x1 .f32) : FVec F S8x1x1 .f32 :=
  shapeCast S8x1x1 (multiReduction .minimumf [1] S8x1
    (select (cmpf .oeq w (broadcastTo S8x200x1 (chunkTop w) broadcasts_S8x1x1_S8x200x1)) (k0_pay9 (F := F))
      (broadcast S8x200x1 (Scalar.ofBits .f32 0x43480000#32)))
    0x7F800000#32 reduces_S8x200x1_S8x1 (.inl rfl) rfl) shapeCasts_S8x1_S8x1x1

/-- The chunk maxima with the chunk of that number taken out. -/
def chunkDrop (w : FVec F S8x200x1 .f32) (cs : FVec F S8x1x1 .f32) : FVec F S8x200x1 .f32 :=
  select (cmpf .oeq (k0_pay9 (F := F)) (broadcastTo S8x200x1 cs broadcasts_S8x1x1_S8x200x1))
    (broadcast S8x200x1 (Scalar.ofBits .f32 0xFF800000#32)) w

/-- The chunk maxima after `j` rounds. -/
def chunksLeft (w : FVec F S8x200x1 .f32) : ℕ → FVec F S8x200x1 .f32
  | 0 => w
  | j + 1 => chunkDrop (chunksLeft w j) (chunkPick (chunksLeft w j))

/-- The scores of the chunk of a given number. -/
def chunkRead (x : FVec F S8x200x500 .f32) (cs : FVec F S8x1x1 .f32) : FVec F S8x1x500 .f32 :=
  shapeCast S8x1x500 (multiReduction .maximumf [1] S8x500
    (select (broadcastTo S8x200x500
        (shapeCast S8x200x1 (cmpf .oeq (k0_pay9 (F := F)) (broadcastTo S8x200x1 cs broadcasts_S8x1x1_S8x200x1)) shapeCasts_S8x200x1_S8x200x1)
        broadcasts_S8x200x1_S8x200x500)
      x (broadcast S8x200x500 (Scalar.ofBits .f32 0xFF800000#32)))
    0xFF800000#32 reduces_S8x200x500_S8x500 (.inl rfl) rfl) shapeCasts_S8x500_S8x1x500

/-- Eight chunks' scores side by side. -/
def stackRows (c : Fin 8 → FVec F S8x1x500 .f32) : FVec F S8x8x500 .f32 :=
  concatenate S8x8x500 1 [⟨S8x1x500, c 0⟩, ⟨S8x1x500, c 1⟩, ⟨S8x1x500, c 2⟩, ⟨S8x1x500, c 3⟩, ⟨S8x1x500, c 4⟩, ⟨S8x1x500, c 5⟩,
    ⟨S8x1x500, c 6⟩, ⟨S8x1x500, c 7⟩] concatenates_S8x1x500_S8x1x500_S8x1x500_S8x1x500_S8x1x500_S8x1x500_S8x1x500_S8x1x500_S8x8x500_d1

/-- Eight numbers side by side along the second axis. -/
def stackMid (c : Fin 8 → FVec F S8x1x1 .f32) : FVec F S8x8x1 .f32 :=
  concatenate S8x8x1 1 [⟨S8x1x1, c 0⟩, ⟨S8x1x1, c 1⟩, ⟨S8x1x1, c 2⟩, ⟨S8x1x1, c 3⟩, ⟨S8x1x1, c 4⟩, ⟨S8x1x1, c 5⟩,
    ⟨S8x1x1, c 6⟩, ⟨S8x1x1, c 7⟩] concatenates_S8x1x1_S8x1x1_S8x1x1_S8x1x1_S8x1x1_S8x1x1_S8x1x1_S8x1x1_S8x8x1_d1

/-- Eight numbers side by side along the last axis. -/
def stackLast (c : Fin 8 → FVec F S8x1x1 .f32) : FVec F S8x1x8 .f32 :=
  concatenate S8x1x8 2 [⟨S8x1x1, c 0⟩, ⟨S8x1x1, c 1⟩, ⟨S8x1x1, c 2⟩, ⟨S8x1x1, c 3⟩, ⟨S8x1x1, c 4⟩, ⟨S8x1x1, c 5⟩,
    ⟨S8x1x1, c 6⟩, ⟨S8x1x1, c 7⟩] concatenates_S8x1x1_S8x1x1_S8x1x1_S8x1x1_S8x1x1_S8x1x1_S8x1x1_S8x1x1_S8x1x8_d2

/-- The position in its row of each score of the chosen chunks. -/
def places (cid : FVec F S8x8x1 .f32) : FVec F S8x8x500 .f32 :=
  addf (broadcastTo S8x8x500 (mulf cid (broadcast S8x8x1 (Scalar.ofBits .f32 0x43FA0000#32))) broadcasts_S8x8x1_S8x8x500)
    (broadcastTo S8x8x500 (k0_pay10 (F := F)) broadcasts_S8x1x500_S8x8x500)

/-- The greatest score left. -/
def itemTop (z : FVec F S8x8x500 .f32) : FVec F S8x1x1 .f32 :=
  shapeCast S8x1x1 (multiReduction .maximumf [1] S8x1
    (shapeCast S8x8x1 (multiReduction .maximumf [2] S8x8 z 0xFF800000#32 reduces_S8x8x500_S8x8 (.inl rfl) rfl) shapeCasts_S8x8_S8x8x1)
    0xFF800000#32 reduces_S8x8x1_S8x1 (.inl rfl) rfl) shapeCasts_S8x1_S8x1x1

/-- The first position that holds it. -/
def itemPick (pos z : FVec F S8x8x500 .f32) : FVec F S8x1x1 .f32 :=
  shapeCast S8x1x1 (multiReduction .minimumf [1] S8x1
    (shapeCast S8x8x1 (multiReduction .minimumf [2] S8x8
      (select (cmpf .oeq z (broadcastTo S8x8x500 (itemTop z) broadcasts_S8x1x1_S8x8x500)) pos
        (broadcast S8x8x500 (Scalar.ofBits .f32 0x47C35000#32)))
      0x7F800000#32 reduces_S8x8x500_S8x8 (.inl rfl) rfl) shapeCasts_S8x8_S8x8x1)
    0x7F800000#32 reduces_S8x8x1_S8x1 (.inl rfl) rfl) shapeCasts_S8x1_S8x1x1

/-- The scores with that position taken out. -/
def itemDrop (pos z : FVec F S8x8x500 .f32) (f : FVec F S8x1x1 .f32) : FVec F S8x8x500 .f32 :=
  select (cmpf .oeq pos (broadcastTo S8x8x500 f broadcasts_S8x1x1_S8x8x500))
    (broadcast S8x8x500 (Scalar.ofBits .f32 0xFF800000#32)) z

/-- The scores after `j` rounds. -/
def itemsLeft (pos z : FVec F S8x8x500 .f32) : ℕ → FVec F S8x8x500 .f32
  | 0 => z
  | j + 1 => itemDrop pos (itemsLeft pos z j) (itemPick pos (itemsLeft pos z j))

/-- A score made the log-probability and added to the beam's own. -/
def scored (bs m ls v : FVec F S8x1x1 .f32) : FVec F S8x1x1 .f32 := addf (subf (subf v m) ls) bs

end Cert.Proof.Scan

end
-- ==== Proof.Literals.lean ====
/- The numbers the programs are written with, as extended reals, and the folds of `max` and `min`. -/
module

public import Idealize.ShloMosaic.Lib.IdealHost

@[expose] public section

noncomputable section

namespace Cert.Proof

open Idealize.ShloMosaic

/-- The printed constant for minus infinity. -/
theorem ofBits_bot : Ideal.ofBits .f32 0xFF800000#32 = ⊥ := by
  simp [Ideal.ofBits, Ideal.ieee]
/-- The printed constant for plus infinity. -/
theorem ofBits_top : Ideal.ofBits .f32 0x7F800000#32 = ⊤ := by
  simp [Ideal.ofBits, Ideal.ieee]
/-- The printed constant for 200. -/
theorem ofBits_200 : Ideal.ofBits .f32 0x43480000#32 = ((200 : ℝ) : EReal) := by
  simp [Ideal.ofBits, Ideal.ieee, -EReal.coe_mul]; norm_num
/-- The printed constant for 500. -/
theorem ofBits_500 : Ideal.ofBits .f32 0x43FA0000#32 = ((500 : ℝ) : EReal) := by
  simp [Ideal.ofBits, Ideal.ieee, -EReal.coe_mul]; norm_num
/-- The printed constant for 100000. -/
theorem ofBits_100000 : Ideal.ofBits .f32 0x47C35000#32 = ((100000 : ℝ) : EReal) := by
  simp [Ideal.ofBits, Ideal.ieee, -EReal.coe_mul]; norm_num
/-- The printed constant for 400000. -/
theorem ofBits_400000 : Ideal.ofBits .f32 0x48C35000#32 = ((400000 : ℝ) : EReal) := by
  simp [Ideal.ofBits, Ideal.ieee, -EReal.coe_mul]; norm_num
/-- The printed constant for 4e8. -/
theorem ofBits_4e8 : Ideal.ofBits .f32 0x4DBEBC20#32 = ((400000000 : ℝ) : EReal) := by
  simp [Ideal.ofBits, Ideal.ieee, -EReal.coe_mul]; norm_num
/-- The printed constant for 1e9. -/
theorem ofBits_1e9 : Ideal.ofBits .f32 0x4E6E6B28#32 = ((1000000000 : ℝ) : EReal) := by
  simp [Ideal.ofBits, Ideal.ieee, -EReal.coe_mul]; norm_num

/-- The bound on beam 0's own score is a real number. -/
theorem ofBits_1e30 : Ideal.ofBits .f32 0x7149F2CA#32 = ((13234890 * 2 ^ 76 : ℝ) : EReal) := by
  simp [Ideal.ofBits, Ideal.ieee, -EReal.coe_mul, -EReal.coe_pow]

/-- A small natural number read as a signed word and made a float. -/
theorem sitofp_natCast (n : ℕ) (hn : n < 2 ^ 31) :
    FloatOps.sitofp (F := Ideal) FTy.f32 (BitVec.ofNat 32 n) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  norm_cast

/-- A small natural number as a float, read back as a word. -/
theorem fptosi_natCast (n : ℕ) (hn : n < 2 ^ 31) :
    FloatOps.fptosi (F := Ideal) (φ := FTy.f32) 32 ((n : ℝ) : EReal) = BitVec.ofNat 32 n := by
  show BitVec.ofInt 32 (max (-(2 ^ (32 - 1))) (min (2 ^ (32 - 1) - 1) (if (0 : ℝ) ≤ (n : ℝ) then ⌊(n : ℝ)⌋ else ⌈(n : ℝ)⌉))) = _
  rw [if_pos (Nat.cast_nonneg n), Int.floor_natCast, min_eq_right (by norm_num; omega), max_eq_right (by norm_num)]
  exact BitVec.ofInt_natCast 32 n

/-- The fold of `max` from the bottom is the supremum. -/
theorem fold_max {ι : Type} [Fintype ι] (f : ι → EReal) : (Finset.univ.fold max ⊥ f : EReal) = ⨆ i, f i := by
  rw [← Finset.sup_univ_eq_iSup]; rfl

/-- The fold of `min` from the top is the infimum. -/
theorem fold_min {ι : Type} [Fintype ι] (f : ι → EReal) : (Finset.univ.fold min ⊤ f : EReal) = ⨅ i, f i := by
  rw [← Finset.inf_univ_eq_iInf]; rfl

end Cert.Proof

end
-- ==== Proof.ScanRead.lean ====
/- The scan kernel's steps read at one batch row, over the extended reals. -/
module

public import proofs.«01_k».proof.Proof.ScanOps
public import proofs.«01_k».proof.Proof.Literals
public import Idealize.ShloMosaic.Lib.Pointwise

@[expose] public section

set_option maxRecDepth 16384

noncomputable section

namespace Cert.Proof.Scan

open Idealize.ShloMosaic Cert.KernelIdeal Cert.KernelIdeal.Gen

/-- The chunk numbers. -/
theorem pay9_apply (r : Fin 8) (c : Fin 200) : k0_pay9 (F := Ideal) (ix3 r c 0) = ((c.val : ℝ) : EReal) := by
  pointwise [k0_pay9]
  exact sitofp_natCast _ (by omega)

/-- The greatest of the chunks' numbers. -/
theorem chunkTop_apply (w : FVec Ideal S8x200x1 .f32) (r : Fin 8) :
    chunkTop w (ix3 r 0 0) = ⨆ c : Fin 200, w (ix3 r c 0) := by
  pointwise [chunkTop]
  rw [ofBits_bot, fold_max]

/-- The least chunk that holds it. -/
theorem chunkPick_apply (w : FVec Ideal S8x200x1 .f32) (r : Fin 8) :
    chunkPick w (ix3 r 0 0) = ⨅ c : Fin 200, if w (ix3 r c 0) = ⨆ c : Fin 200, w (ix3 r c 0) then ((c.val : ℝ) : EReal) else ((200 : ℝ) : EReal) := by
  pointwise [chunkPick]
  simp only [ofBits_top, fold_min, ofBits_200, pay9_apply, chunkTop_apply]

/-- Striking out a chunk puts minus infinity there. -/
theorem chunkDrop_apply (w : FVec Ideal S8x200x1 .f32) (cs : FVec Ideal S8x1x1 .f32) (r : Fin 8) (c : Fin 200) :
    chunkDrop w cs (ix3 r c 0) = if ((c.val : ℝ) : EReal) = cs (ix3 r 0 0) then ⊥ else w (ix3 r c 0) := by
  pointwise [chunkDrop]
  simp only [ofBits_bot, pay9_apply]

/-- The entries of the chunk picked. -/
theorem chunkRead_apply (x : FVec Ideal S8x200x500 .f32) (cs : FVec Ideal S8x1x1 .f32) (r : Fin 8) (k : Fin 500) :
    chunkRead x cs (ix3 r 0 k) = ⨆ c : Fin 200, if ((c.val : ℝ) : EReal) = cs (ix3 r 0 0) then x (ix3 r c k) else ⊥ := by
  pointwise [chunkRead]
  simp only [ofBits_bot, fold_max, pay9_apply]

/-- Eight rows stacked, read at one of them. -/
theorem stackRows_apply (f : Fin 8 → FVec Ideal S8x1x500 .f32) (r a : Fin 8) (k : Fin 500) :
    stackRows f (ix3 r a k) = f a (ix3 r 0 k) := by
  pointwise [stackRows]
  fin_vals a with hk
  all_goals simp only [hk, Nat.reduceSub, Nat.reduceLT, ↓reduceDIte]
  all_goals exact congrArg (fun b : Fin 8 => f b (ix3 r 0 k)) (Fin.ext hk.symm)

/-- Eight numbers stacked, read at one of them. -/
theorem stackMid_apply (f : Fin 8 → FVec Ideal S8x1x1 .f32) (r a : Fin 8) :
    stackMid f (ix3 r a 0) = f a (ix3 r 0 0) := by
  pointwise [stackMid]
  fin_vals a with hk
  all_goals simp only [hk, Nat.reduceSub, Nat.reduceLT, ↓reduceDIte]
  all_goals exact congrArg (fun b : Fin 8 => f b (ix3 r 0 0)) (Fin.ext hk.symm)

/-- An entry's place is its chunk times 500 plus its place in the chunk. -/
theorem places_apply (cid : FVec Ideal S8x8x1 .f32) (r a : Fin 8) (k : Fin 500) :
    places cid (ix3 r a k) = cid (ix3 r a 0) * ((500 : ℝ) : EReal) + ((k.val : ℝ) : EReal) := by
  pointwise [places, k0_pay10]
  rw [ofBits_500, sitofp_natCast _ (by omega)]

/-- The greatest of the gathered entries. -/
theorem itemTop_apply (z : FVec Ideal S8x8x500 .f32) (r : Fin 8) :
    itemTop z (ix3 r 0 0) = ⨆ q : Fin 8 × Fin 500, z (ix3 r q.1 q.2) := by
  pointwise [itemTop]
  simp only [ofBits_bot, fold_max]
  exact (iSup_prod (f := fun q : Fin 8 × Fin 500 => z (ix3 r q.1 q.2))).symm

/-- The least place that holds it. -/
theorem itemPick_apply (pos z : FVec Ideal S8x8x500 .f32) (r : Fin 8) :
    itemPick pos z (ix3 r 0 0) = ⨅ q : Fin 8 × Fin 500,
      if z (ix3 r q.1 q.2) = itemTop z (ix3 r 0 0) then pos (ix3 r q.1 q.2) else ((100000 : ℝ) : EReal) := by
  pointwise [itemPick]
  simp only [ofBits_top, ofBits_100000, fold_min]
  exact (iInf_prod (f := fun q : Fin 8 × Fin 500 =>
    if z (ix3 r q.1 q.2) = itemTop z (ix3 r 0 0) then pos (ix3 r q.1 q.2) else ((100000 : ℝ) : EReal))).symm

/-- Striking out a place puts minus infinity there. -/
theorem itemDrop_apply (pos z : FVec Ideal S8x8x500 .f32) (f : FVec Ideal S8x1x1 .f32) (r a : Fin 8) (k : Fin 500) :
    itemDrop pos z f (ix3 r a k) = if pos (ix3 r a k) = f (ix3 r 0 0) then ⊥ else z (ix3 r a k) := by
  pointwise [itemDrop]
  rw [ofBits_bot]

/-- Eight results side by side, read at one of them. -/
theorem stackLast_apply (f : Fin 8 → FVec Ideal S8x1x1 .f32) (r j : Fin 8) :
    stackLast f (ix3 r 0 j) = f j (ix3 r 0 0) := by
  pointwise [stackLast]
  fin_vals j with hk
  all_goals simp only [hk, Nat.reduceSub, Nat.reduceLT, ↓reduceDIte]
  all_goals exact congrArg (fun b : Fin 8 => f b (ix3 r 0 0)) (Fin.ext hk.symm)

/-- A pick's log-probability plus the beam's own score. -/
theorem scored_apply (bs m ls v : FVec Ideal S8x1x1 .f32) (r : Fin 8) :
    scored bs m ls v (ix3 r 0 0) = v (ix3 r 0 0) - m (ix3 r 0 0) - ls (ix3 r 0 0) + bs (ix3 r 0 0) := by
  pointwise [scored]

end Cert.Proof.Scan

end
-- ==== Proof.ScanFold.lean ====
/- What the scan kernel stores, in the named steps: eight chunks are picked, their scores put side by side, and eight
   scores picked from them. -/
module

public import proofs.«01_k».proof.Proof.ScanOps
public import proofs.«01_k».proof.Proof.Gen.KernelIdeal.Frame

@[expose] public section

noncomputable section

namespace Cert.Proof.Scan

open Idealize.ShloMosaic Cert.KernelIdeal Cert.KernelIdeal.Gen

variable {F : FTy → Type} [FloatOps F] (x0 : Vec F S8x1x200x500 .f32) (x1 : Vec F S8x1x1 .f32)

/-- The block's scores, 200 chunks of 500 in each of 8 rows. -/
def scores : FVec F S8x200x500 .f32 := k0_pay4 (View.ld x0 r0_0)

/-- The chunks' greatest scores. -/
def maxima : FVec F S8x200x1 .f32 := k0_pay6 (View.ld x0 r0_0)

/-- The chunk picked in round `j`. -/
def pick (j : ℕ) : FVec F S8x1x1 .f32 := chunkPick (chunksLeft (maxima x0) j)

/-- The picked chunks' scores. -/
def rows : FVec F S8x8x500 .f32 := stackRows fun a => chunkRead (scores x0) (pick x0 a)

/-- Their positions in the row. -/
def pos : FVec F S8x8x500 .f32 := places (stackMid fun a => pick x0 a)

/-- The scores left after `j` rounds. -/
def left (j : ℕ) : FVec F S8x8x500 .f32 := itemsLeft (pos x0) (rows x0) j

/-- The rows' greatest scores. -/
def top : FVec F S8x1x1 .f32 := k0_pay7 (View.ld x0 r0_0)

/-- The logarithms of the rows' sums of exponentials. -/
def logSum : FVec F S8x1x1 .f32 := k0_pay8 (View.ld x0 r0_0)

/-- The beam scores of the rows. -/
def beam : FVec F S8x1x1 .f32 := k0_pay5 (View.ld x1 r0_1)

/-! ## The chunks picked -/

/-- The printed row of chunk numbers, named twice. -/
theorem pay67_eq : k0_pay67 x0 x1 = k0_pay9 (F := F) := rfl
/-- The printed step that picks chunk number 0. -/
theorem pay69_eq : k0_pay69 x0 x1 = pick x0 0 := rfl
/-- The printed maxima left in round 1 over the chunks. -/
theorem pay70_eq : k0_pay70 x0 x1 = chunksLeft (maxima x0) 1 := rfl
/-- The printed step that picks chunk number 1. -/
theorem pay71_eq : k0_pay71 x0 x1 = pick x0 1 := rfl
/-- The printed maxima left in round 2 over the chunks. -/
theorem left2_eq : k0_pay14 (k0_pay67 x0 x1) (k0_pay70 x0 x1) (k0_pay71 x0 x1) = chunksLeft (maxima x0) 2 := by
  rw [pay67_eq, pay70_eq, pay71_eq]; rfl
/-- The printed step that picks chunk number 2. -/
theorem pay72_eq : k0_pay72 x0 x1 = pick x0 2 := by
  unfold k0_pay72 k0_pay15; rw [left2_eq, pay67_eq]; rfl
/-- The printed maxima left in round 3 over the chunks. -/
theorem left3_eq : k0_pay16 (k0_pay67 x0 x1) (k0_pay70 x0 x1) (k0_pay71 x0 x1) = chunksLeft (maxima x0) 3 := by
  unfold k0_pay16; rw [left2_eq]; change chunkDrop _ (k0_pay72 x0 x1) = _; rw [pay72_eq]; rfl
/-- The printed step that picks chunk number 3. -/
theorem pay73_eq : k0_pay73 x0 x1 = pick x0 3 := by
  unfold k0_pay73 k0_pay17; rw [left3_eq, pay67_eq]; rfl
/-- The printed maxima left in round 4 over the chunks. -/
theorem left4_eq : k0_pay18 (k0_pay67 x0 x1) (k0_pay70 x0 x1) (k0_pay71 x0 x1) = chunksLeft (maxima x0) 4 := by
  unfold k0_pay18; rw [left3_eq]; change chunkDrop _ (k0_pay73 x0 x1) = _; rw [pay73_eq]; rfl
/-- The printed step that picks chunk number 4. -/
theorem pay74_eq : k0_pay74 x0 x1 = pick x0 4 := by
  unfold k0_pay74 k0_pay19; rw [left4_eq, pay67_eq]; rfl
/-- The printed maxima left in round 5 over the chunks. -/
theorem pay75_eq : k0_pay75 x0 x1 = chunksLeft (maxima x0) 5 := by
  unfold k0_pay75 k0_pay20; rw [left4_eq]; change chunkDrop _ (k0_pay74 x0 x1) = _; rw [pay74_eq]; rfl
/-- The printed step that picks chunk number 5. -/
theorem pay78_eq : k0_pay78 x0 x1 = pick x0 5 := by
  unfold k0_pay78 k0_pay76 k0_pay77 k0_pay23 k0_pay21 k0_pay22
  change chunkPick (k0_pay75 x0 x1) = _; rw [pay75_eq]; rfl
/-- The printed maxima left in round 6 over the chunks. -/
theorem left6_eq : k0_pay24 (k0_pay67 x0 x1) (k0_pay75 x0 x1) (k0_pay76 x0 x1) (k0_pay77 x0 x1) = chunksLeft (maxima x0) 6 := by
  unfold k0_pay24; change chunkDrop (k0_pay75 x0 x1) (k0_pay78 x0 x1) = _; rw [pay75_eq, pay78_eq]; rfl
/-- The printed step that picks chunk number 6. -/
theorem pay79_eq : k0_pay79 x0 x1 = pick x0 6 := by
  unfold k0_pay79 k0_pay25; rw [left6_eq, pay67_eq]; rfl
/-- The printed step that picks chunk number 7. -/
theorem pay80_eq : k0_pay80 x0 x1 = pick x0 7 := by
  unfold k0_pay80 k0_pay26; rw [left6_eq]
  change chunkPick (chunkDrop _ (k0_pay79 x0 x1)) = _; rw [pay79_eq]; rfl

/-! ## The scores picked -/

/-- The picked chunks side by side. -/
theorem pay81_eq : k0_pay81 x0 x1 = rows x0 := by
  unfold k0_pay81
  rw [pay73_eq, pay74_eq, pay78_eq, pay79_eq, pay80_eq, pay69_eq, pay71_eq, pay72_eq]
  rfl

/-- Their positions. -/
theorem pay84_eq : k0_pay84 x0 x1 = pos x0 := by
  unfold k0_pay84 k0_pay82
  rw [pay73_eq, pay74_eq, pay78_eq, pay79_eq, pay80_eq, pay69_eq, pay71_eq, pay72_eq]
  rfl

/-- The printed places of the gathered entries. -/
theorem places_eq : k0_pay33 (k0_pay68 x0 x1) (k0_pay82 x0 x1) (k0_pay83 x0 x1) = pos x0 := pay84_eq x0 x1

/-- The printed step that picks a place in round 0. -/
theorem item0_eq : k0_pay35 (k0_pay68 x0 x1) (k0_pay81 x0 x1) (k0_pay82 x0 x1) (k0_pay83 x0 x1) = itemPick (pos x0) (left x0 0) := by
  unfold k0_pay35; rw [places_eq, pay81_eq]; rfl
/-- The printed entries left in round 1. -/
theorem leftItems1_eq : k0_pay37 (k0_pay68 x0 x1) (k0_pay81 x0 x1) (k0_pay82 x0 x1) (k0_pay83 x0 x1) = left x0 1 := by
  unfold k0_pay37; rw [places_eq, item0_eq, pay81_eq]; rfl
/-- The printed step that finds the greatest entry in round 1. -/
theorem top1_eq : k0_pay38 (k0_pay68 x0 x1) (k0_pay81 x0 x1) (k0_pay82 x0 x1) (k0_pay83 x0 x1) = itemTop (left x0 1) := by
  unfold k0_pay38; rw [leftItems1_eq]; rfl
/-- The printed step that picks a place in round 1. -/
theorem item1_eq : k0_pay39 (k0_pay68 x0 x1) (k0_pay81 x0 x1) (k0_pay82 x0 x1) (k0_pay83 x0 x1) = itemPick (pos x0) (left x0 1) := by
  unfold k0_pay39; rw [places_eq, leftItems1_eq, top1_eq]; rfl
/-- The printed entries left in round 2. -/
theorem pay85_eq : k0_pay85 x0 x1 = left x0 2 := by
  unfold k0_pay85 k0_pay41; rw [places_eq, item1_eq, leftItems1_eq]; rfl
/-- The printed step that finds the greatest entry in round 2. -/
theorem pay86_eq : k0_pay86 x0 x1 = itemTop (left x0 2) := by
  unfold k0_pay86 k0_pay42; change itemTop (k0_pay85 x0 x1) = _; rw [pay85_eq]
/-- The printed step that picks a place in round 2. -/
theorem item2_eq : k0_pay43 (k0_pay84 x0 x1) (k0_pay85 x0 x1) (k0_pay86 x0 x1) = itemPick (pos x0) (left x0 2) := by
  rw [pay84_eq, pay85_eq, pay86_eq]; rfl

/-- The printed entries left in round 3. -/
theorem leftItems3_eq : k0_pay45 (k0_pay84 x0 x1) (k0_pay85 x0 x1) (k0_pay86 x0 x1) = left x0 3 := by
  unfold k0_pay45; rw [item2_eq, pay84_eq, pay85_eq]; rfl
/-- The printed step that finds the greatest entry in round 3. -/
theorem top3_eq : k0_pay46 (k0_pay84 x0 x1) (k0_pay85 x0 x1) (k0_pay86 x0 x1) = itemTop (left x0 3) := by
  unfold k0_pay46; rw [leftItems3_eq]; rfl
/-- The printed step that picks a place in round 3. -/
theorem item3_eq : k0_pay47 (k0_pay84 x0 x1) (k0_pay85 x0 x1) (k0_pay86 x0 x1) = itemPick (pos x0) (left x0 3) := by
  unfold k0_pay47; rw [top3_eq, leftItems3_eq, pay84_eq]; rfl
/-- The printed entries left in round 4. -/
theorem pay87_eq : k0_pay87 x0 x1 = left x0 4 := by
  unfold k0_pay87 k0_pay49; rw [item3_eq, leftItems3_eq, pay84_eq]; rfl
/-- The printed step that finds the greatest entry in round 4. -/
theorem top4_eq : k0_pay50 (k0_pay84 x0 x1) (k0_pay85 x0 x1) (k0_pay86 x0 x1) = itemTop (left x0 4) := by
  unfold k0_pay50; change itemTop (k0_pay87 x0 x1) = _; rw [pay87_eq]
/-- The printed step that picks a place in round 4. -/
theorem item4_eq : k0_pay52 (k0_pay88 x0 x1) = itemPick (pos x0) (left x0 4) := by
  unfold k0_pay52 k0_pay88 k0_pay51; rw [top4_eq, pay84_eq]
  change itemPick (pos x0) (k0_pay87 x0 x1) = _ at *
  rw [pay87_eq]
/-- The printed entries left in round 5. -/
theorem leftItems5_eq : k0_pay54 (k0_pay84 x0 x1) (k0_pay87 x0 x1) (k0_pay88 x0 x1) = left x0 5 := by
  unfold k0_pay54; rw [item4_eq, pay84_eq, pay87_eq]; rfl
/-- The printed step that finds the greatest entry in round 5. -/
theorem top5_eq : k0_pay55 (k0_pay84 x0 x1) (k0_pay87 x0 x1) (k0_pay88 x0 x1) = itemTop (left x0 5) := by
  unfold k0_pay55; rw [leftItems5_eq]; rfl
/-- The printed step that picks a place in round 5. -/
theorem item5_eq : k0_pay56 (k0_pay84 x0 x1) (k0_pay87 x0 x1) (k0_pay88 x0 x1) = itemPick (pos x0) (left x0 5) := by
  unfold k0_pay56; rw [top5_eq, leftItems5_eq, pay84_eq]; rfl
/-- The printed entries left in round 6. -/
theorem leftItems6_eq : k0_pay58 (k0_pay84 x0 x1) (k0_pay87 x0 x1) (k0_pay88 x0 x1) = left x0 6 := by
  unfold k0_pay58; rw [item5_eq, leftItems5_eq, pay84_eq]; rfl
/-- The printed step that finds the greatest entry in round 6. -/
theorem top6_eq : k0_pay59 (k0_pay84 x0 x1) (k0_pay87 x0 x1) (k0_pay88 x0 x1) = itemTop (left x0 6) := by
  unfold k0_pay59; rw [leftItems6_eq]; rfl
/-- The printed step that picks a place in round 6. -/
theorem item6_eq : k0_pay60 (k0_pay84 x0 x1) (k0_pay87 x0 x1) (k0_pay88 x0 x1) = itemPick (pos x0) (left x0 6) := by
  unfold k0_pay60; rw [top6_eq, leftItems6_eq, pay84_eq]; rfl
/-- The printed entries left in round 7. -/
theorem pay89_eq : k0_pay89 x0 x1 = left x0 7 := by
  unfold k0_pay89 k0_pay62; rw [item6_eq, leftItems6_eq, pay84_eq]; rfl

/-! ## What is stored -/

/-- The first output's block: the eight picked scores, as log-probabilities with the beam's score added. -/
theorem out0_2_eq : out0_2 x0 x1 = View.canon [⟨r0_2,
    stackLast fun j => scored (beam x1) (top x0) (logSum x0) (itemTop (left x0 j))⟩] := by
  unfold out0_2 k0_pay40 k0_pay48 k0_pay53 k0_pay57 k0_pay61
  rw [top1_eq, top3_eq, top4_eq, top5_eq, top6_eq, pay86_eq, pay89_eq, pay81_eq]
  rfl

/-- The second output's block: their positions. -/
theorem out0_3_eq : out0_3 x0 x1 = View.canon [⟨r0_2,
    fptosi 32 (stackLast fun j => itemPick (pos x0) (left x0 j))⟩] := by
  unfold out0_3
  rw [item0_eq, item1_eq, item2_eq, item3_eq, item4_eq, item5_eq, item6_eq, pay89_eq, pay84_eq]
  rfl

end Cert.Proof.Scan

end
-- ==== Proof.Rank.lean ====
/- Ranking the entries of a finite family: greatest value first, equal values by the smaller key. Everything here is
   about plain families of extended reals; no program is mentioned. -/
module

public import Mathlib.Data.EReal.Basic
public import Mathlib.Data.Fintype.Card
public import Mathlib.Data.Finset.Card
public import Mathlib.Order.CompleteLattice.Finset
public import Mathlib.Data.Fintype.Order
public import Mathlib.Data.Finset.Fold
public import Mathlib.Data.Fintype.Prod
public import Mathlib.Data.Fintype.BigOperators
public import Mathlib.Order.Interval.Finset.Fin

@[expose] public section

noncomputable section

namespace Cert.Proof.Rank

variable {ι κ ι' κ' : Type*} [LinearOrder κ] [LinearOrder κ']

/-- `a` comes before `b`: its value is greater, or the values are equal and its key is smaller. -/
def Before (v : ι → EReal) (key : ι → κ) (a b : ι) : Prop := v b < v a ∨ (v a = v b ∧ key a < key b)

section order
variable {v : ι → EReal} {key : ι → κ}

/-- Nothing comes before itself. -/
theorem Before.irrefl (a : ι) : ¬ Before v key a a := by
  rintro (h | h)
  · exact lt_irrefl _ h
  · exact lt_irrefl _ h.2

/-- Coming before is transitive. -/
theorem Before.trans {a b c : ι} (h : Before v key a b) (h' : Before v key b c) : Before v key a c := by
  rcases h with h | ⟨h, k⟩ <;> rcases h' with h' | ⟨h', k'⟩
  · exact .inl (h'.trans h)
  · exact .inl (h' ▸ h)
  · exact .inl (h ▸ h')
  · exact .inr ⟨h.trans h', k.trans k'⟩

/-- Two entries of different keys come one before the other. -/
theorem Before.total {a b : ι} (hk : key a ≠ key b) : Before v key a b ∨ Before v key b a := by
  rcases lt_trichotomy (v a) (v b) with h | h | h
  · exact .inr (.inl h)
  · rcases lt_or_gt_of_ne hk with k | k
    · exact .inl (.inr ⟨h, k⟩)
    · exact .inr (.inr ⟨h.symm, k⟩)
  · exact .inl (.inl h)

/-- An entry not after another one has at least its value. -/
theorem Before.le {a b : ι} (h : Before v key a b) : v b ≤ v a := by
  rcases h with h | h
  · exact h.le
  · exact h.1.ge

end order

variable [Fintype ι] [Fintype ι']

open Classical in
/-- How many entries come before `p`. -/
def ahead (v : ι → EReal) (key : ι → κ) (p : ι) : ℕ := (Finset.univ.filter fun i => Before v key i p).card

section ahead
variable {v : ι → EReal} {key : ι → κ}

/-- An earlier entry has fewer entries before it. -/
theorem ahead_lt {a b : ι} (h : Before v key a b) : ahead v key a < ahead v key b := by
  classical
  unfold ahead
  apply Finset.card_lt_card
  refine ⟨fun i hi => ?_, fun hs => ?_⟩
  · simp only [Finset.mem_filter, Finset.mem_univ, true_and] at hi ⊢
    exact hi.trans h
  · have : a ∈ Finset.univ.filter fun i => Before v key i a := hs (by simpa using h)
    simp only [Finset.mem_filter, Finset.mem_univ, true_and] at this
    exact Before.irrefl _ this

/-- With distinct keys, fewer entries before means earlier. -/
theorem before_iff_ahead_lt (hinj : Function.Injective key) {a b : ι} :
    Before v key a b ↔ ahead v key a < ahead v key b := by
  refine ⟨ahead_lt, fun h => ?_⟩
  have hne : key a ≠ key b := fun e => by rw [hinj e] at h; exact lt_irrefl _ h
  rcases Before.total (v := v) hne with k | k
  · exact k
  · exact absurd (ahead_lt k) (by omega)

/-- With distinct keys the number of entries before tells the entry. -/
theorem ahead_injective (hinj : Function.Injective key) : Function.Injective (ahead v key) := fun a b h => by
  by_contra hne
  rcases Before.total (v := v) (fun e => hne (hinj e)) with k | k
  · exact absurd (ahead_lt k) (by omega)
  · exact absurd (ahead_lt k) (by omega)

/-- Fewer entries come before one than there are. -/
theorem ahead_lt_card (p : ι) : ahead v key p < Fintype.card ι := by
  classical
  unfold ahead
  apply Finset.card_lt_univ_of_notMem (x := p)
  simp only [Finset.mem_filter, Finset.mem_univ, true_and]
  exact Before.irrefl p

/-- Every count below the number of entries is reached. -/
theorem exists_ahead (hinj : Function.Injective key) {j : ℕ} (hj : j < Fintype.card ι) : ∃ p, ahead v key p = j := by
  classical
  let f : ι → Fin (Fintype.card ι) := fun p => ⟨ahead v key p, ahead_lt_card p⟩
  have hf : Function.Injective f := fun a b h => ahead_injective hinj (Fin.mk.inj_iff.mp h)
  have hs : Function.Surjective f :=
    ((Fintype.bijective_iff_injective_and_card f).mpr ⟨hf, by rw [Fintype.card_fin]⟩).2
  obtain ⟨p, hp⟩ := hs ⟨j, hj⟩
  exact ⟨p, Fin.mk.inj_iff.mp hp⟩

end ahead

/-- The entry with exactly `j` entries before it. -/
def nth [Nonempty ι] (v : ι → EReal) (key : ι → κ) (j : ℕ) : ι := Classical.epsilon fun p => ahead v key p = j

section nth
variable [Nonempty ι] {v : ι → EReal} {key : ι → κ}

/-- `nth` has its count before it. -/
theorem ahead_nth (hinj : Function.Injective key) {j : ℕ} (hj : j < Fintype.card ι) : ahead v key (nth v key j) = j :=
  Classical.epsilon_spec (exists_ahead hinj hj)

/-- An entry with `j` entries before it is the `j`-th. -/
theorem eq_nth (hinj : Function.Injective key) {j : ℕ} {p : ι} (hp : ahead v key p = j) : nth v key j = p :=
  ahead_injective (v := v) hinj ((ahead_nth hinj (hp ▸ ahead_lt_card p)).trans hp.symm)

end nth

/-- The family with the first `j` entries taken out. -/
def masked (v : ι → EReal) (key : ι → κ) (j : ℕ) (i : ι) : EReal := if ahead v key i < j then ⊥ else v i

section rounds
variable {v : ι → EReal} {key : ι → κ}

/-- Nothing is taken out at first. -/
theorem masked_zero (i : ι) : masked v key 0 i = v i := if_neg (Nat.not_lt_zero _)

/-- The greatest value left is that of the next entry. -/
theorem iSup_masked (hinj : Function.Injective key) {j : ℕ} {p : ι} (hp : ahead v key p = j) :
    ⨆ i, masked v key j i = v p := by
  apply le_antisymm
  · refine iSup_le fun i => ?_
    unfold masked
    split
    · exact bot_le
    · rename_i h
      rcases eq_or_ne i p with rfl | hne
      · exact le_rfl
      · have : ahead v key i ≠ ahead v key p := fun e => hne (ahead_injective hinj e)
        exact ((before_iff_ahead_lt hinj).mpr (by omega)).le
  · refine le_trans (le_of_eq ?_) (le_iSup (masked v key j) p)
    unfold masked
    rw [if_neg (by omega)]

/-- Among the entries left of that value the smallest key is the next entry's. -/
theorem iInf_masked {key : ι → EReal} (hinj : Function.Injective key) (hbot : ∀ i, ⊥ < v i) {B : EReal} (hB : ∀ i, key i ≤ B)
    {j : ℕ} {p : ι} (hp : ahead v key p = j) :
    ⨅ i, (if masked v key j i = v p then key i else B) = key p := by
  apply le_antisymm
  · refine (iInf_le _ p).trans (le_of_eq ?_)
    rw [if_pos]
    unfold masked
    rw [if_neg (by omega)]
  · refine le_iInf fun i => ?_
    split
    · rename_i h
      unfold masked at h
      split at h
      · exact absurd h (hbot p).ne
      · rcases eq_or_ne i p with rfl | hne
        · exact le_rfl
        · have : ahead v key i ≠ ahead v key p := fun e => hne (ahead_injective hinj e)
          rcases (before_iff_ahead_lt (v := v) hinj (a := p) (b := i)).mpr (by omega) with k | k
          · exact absurd h k.ne
          · exact k.2.le
    · exact hB p

/-- Taking out the entry of that key leaves the next family. -/
theorem masked_succ (hinj : Function.Injective key) {j : ℕ} {p : ι} (hp : ahead v key p = j) (i : ι) :
    (if key i = key p then ⊥ else masked v key j i) = masked v key (j + 1) i := by
  unfold masked
  rcases eq_or_ne i p with rfl | hne
  · rw [if_pos rfl, if_pos (by omega)]
  · have hk : key i ≠ key p := fun e => hne (hinj e)
    have : ahead v key i ≠ ahead v key p := fun e => hne (ahead_injective hinj e)
    rw [if_neg hk]
    by_cases h : ahead v key i < j
    · rw [if_pos h, if_pos (by omega)]
    · rw [if_neg h, if_neg (by omega)]

end rounds

/-- A family carried into a larger one so that the order is kept and everything before the image of `p` is an image:
    `p` keeps its count. -/
theorem ahead_embed {v : ι → EReal} {key : ι → κ} {v' : ι' → EReal} {key' : ι' → κ'} (e : ι → ι')
    (he : Function.Injective e) (hb : ∀ a b, Before v' key' (e a) (e b) ↔ Before v key a b) (p : ι)
    (hr : ∀ i', Before v' key' i' (e p) → ∃ i, e i = i') : ahead v' key' (e p) = ahead v key p := by
  classical
  unfold ahead
  symm
  apply Finset.card_bij (fun i _ => e i)
  · intro a ha
    simp only [Finset.mem_filter, Finset.mem_univ, true_and] at ha ⊢
    exact (hb a p).mpr ha
  · intro a _ b _ h
    exact he h
  · intro i' hi'
    simp only [Finset.mem_filter, Finset.mem_univ, true_and] at hi'
    obtain ⟨i, rfl⟩ := hr i' hi'
    exact ⟨i, by simpa using (hb i p).mp hi', rfl⟩

/-- A strictly greater reading of the values keeps the order. -/
theorem before_congr {v : ι → EReal} {key : ι → κ} {v' : ι → EReal} {key' : ι → κ'}
    (hv : ∀ a b, v' a < v' b ↔ v a < v b) (hk : ∀ a b, key' a < key' b ↔ key a < key b) (a b : ι) :
    Before v' key' a b ↔ Before v key a b := by
  have he : v' a = v' b ↔ v a = v b := by
    constructor
    · intro h
      refine le_antisymm (not_lt.mp fun k => ?_) (not_lt.mp fun k => ?_)
      · exact absurd ((hv b a).mpr k) (by rw [h]; exact lt_irrefl _)
      · exact absurd ((hv a b).mpr k) (by rw [h]; exact lt_irrefl _)
    · intro h
      refine le_antisymm (not_lt.mp fun k => ?_) (not_lt.mp fun k => ?_)
      · exact absurd ((hv b a).mp k) (by rw [h]; exact lt_irrefl _)
      · exact absurd ((hv a b).mp k) (by rw [h]; exact lt_irrefl _)
  unfold Before
  rw [hv, he, hk]

end Cert.Proof.Rank

end
-- ==== Proof.Chunks.lean ====
/- Selecting in two stages: the first chunks by their greatest value, then the first entries of those chunks. The first
   entries found are those of the whole family. -/
module

public import proofs.«01_k».proof.Proof.Rank
public import Mathlib.Data.Fintype.Lattice

@[expose] public section

noncomputable section

namespace Cert.Proof.Rank

variable {n k t : ℕ} [NeZero n] [NeZero k]

/-- The greatest value of a chunk. -/
def chunkMax (y : Fin n × Fin k → EReal) (c : Fin n) : EReal := ⨆ i, y (c, i)

/-- A chunk holds an entry of its greatest value. -/
theorem exists_chunkMax (y : Fin n × Fin k → EReal) (c : Fin n) : ∃ i, y (c, i) = chunkMax y c := by
  obtain ⟨i, hi⟩ := Finite.exists_max fun i => y (c, i)
  exact ⟨i, le_antisymm (le_iSup (fun i => y (c, i)) i) (iSup_le hi)⟩

/-- Keys that follow the chunks: an entry of an earlier chunk has a smaller key. -/
structure ChunkKeys (ckey : Fin n → EReal) (key : Fin n × Fin k → EReal) : Prop where
  ckey_inj : Function.Injective ckey
  key_inj : Function.Injective key
  key_lt : ∀ c c' i i', ckey c < ckey c' → key (c, i) < key (c', i')

variable {ckey : Fin n → EReal} {key : Fin n × Fin k → EReal}

/-- No more chunks come before an entry's chunk than entries before the entry. -/
theorem ahead_chunk_le (h : ChunkKeys ckey key) (y : Fin n × Fin k → EReal) (p : Fin n × Fin k) :
    ahead (chunkMax y) ckey p.1 ≤ ahead y key p := by
  classical
  unfold ahead
  choose f hf using exists_chunkMax y
  apply Finset.card_le_card_of_injOn (fun c => (c, f c))
  · intro c hc
    simp only [Finset.coe_filter, Finset.mem_univ, true_and, Set.mem_setOf_eq] at hc ⊢
    have hp : y p ≤ chunkMax y p.1 := le_iSup (fun i => y (p.1, i)) p.2
    rcases hc with hc | ⟨hc, hk⟩
    · exact .inl (by rw [hf]; exact hp.trans_lt hc)
    · rcases hp.lt_or_eq with hlt | heq
      · exact .inl (by rw [hf, hc]; exact hlt)
      · exact .inr ⟨by rw [hf, hc, heq], h.key_lt _ _ _ _ hk⟩
  · intro a _ b _ hab
    exact congrArg Prod.fst hab

/-- The chunk chosen in round `a`. -/
abbrev chosen (y : Fin n × Fin k → EReal) (ckey : Fin n → EReal) (a : Fin t) : Fin n := nth (chunkMax y) ckey a

/-- An entry of the chosen chunks, as an entry of the whole. -/
abbrev spread (y : Fin n × Fin k → EReal) (ckey : Fin n → EReal) (q : Fin t × Fin k) : Fin n × Fin k :=
  (chosen y ckey q.1, q.2)

/-- The chosen chunks are different. -/
theorem spread_injective (h : ChunkKeys ckey key) (ht : t ≤ n) (y : Fin n × Fin k → EReal) :
    Function.Injective (spread (t := t) y ckey) := by
  intro a b hab
  have h1 := congrArg Prod.fst hab
  have h2 := congrArg Prod.snd hab
  have hc : ∀ a : Fin t, a.val < Fintype.card (Fin n) := fun a => by rw [Fintype.card_fin]; omega
  have e := congrArg (ahead (chunkMax y) ckey) h1
  rw [ahead_nth h.ckey_inj (hc _), ahead_nth h.ckey_inj (hc _)] at e
  exact Prod.ext (Fin.ext e) h2

/-- An entry with fewer than `t` entries before it lies in one of the first `t` chunks. -/
theorem exists_spread (h : ChunkKeys ckey key) (y : Fin n × Fin k → EReal) (p : Fin n × Fin k) (hp : ahead y key p < t) :
    ∃ q : Fin t × Fin k, spread y ckey q = p :=
  ⟨(⟨ahead (chunkMax y) ckey p.1, (ahead_chunk_le h y p).trans_lt hp⟩, p.2),
    Prod.ext (eq_nth h.ckey_inj rfl) rfl⟩

/-- The `j`-th entry of the chosen chunks is the `j`-th of the whole, for `j` below the number of chunks chosen. -/
theorem spread_nth [NeZero t] (h : ChunkKeys ckey key) (ht : t ≤ n) (y : Fin n × Fin k → EReal) {j : ℕ} (hj : j < t) :
    spread y ckey (nth (fun q : Fin t × Fin k => y (spread y ckey q)) (fun q => key (spread y ckey q)) j) = nth y key j := by
  have hkey : Function.Injective (fun q : Fin t × Fin k => key (spread y ckey q)) :=
    fun a b hab => spread_injective h ht y (h.key_inj hab)
  have hcard : j < Fintype.card (Fin n × Fin k) := by
    rw [Fintype.card_prod, Fintype.card_fin, Fintype.card_fin]
    have : 0 < k := Nat.pos_of_ne_zero (NeZero.ne k)
    calc j < n := by omega
      _ ≤ n * k := Nat.le_mul_of_pos_right n this
  have hp := ahead_nth (v := y) h.key_inj hcard
  obtain ⟨q, hq⟩ := exists_spread (t := t) h y (nth y key j) (by omega)
  rw [← hq]
  congr 1
  apply eq_nth hkey
  rw [← ahead_embed (v' := y) (key' := key) (spread y ckey) (spread_injective h ht y) (fun _ _ => Iff.rfl) q, hq, hp]
  intro i' hi'
  refine exists_spread h y i' ?_
  have := ahead_lt hi'
  rw [hq, hp] at this
  omega

end Cert.Proof.Rank

end
-- ==== Proof.ScanRow.lean ====
/- What one batch row of a block becomes: the eight greatest scores in order, the earlier position first among equal
   scores, and their positions. -/
module

public import proofs.«01_k».proof.Proof.ScanRead
public import proofs.«01_k».proof.Proof.ScanFold
public import proofs.«01_k».proof.Proof.Chunks
public import Idealize.ShloMosaic.Lib.Pipeline.ValueKit.Basic

@[expose] public section

set_option maxRecDepth 16384

noncomputable section

namespace Cert.Proof.Scan

open Idealize.ShloMosaic Cert.KernelIdeal Cert.KernelIdeal.Gen Cert.Proof.Rank

/-- A chunk's number. -/
def ckey (c : Fin 200) : EReal := ((c.val : ℝ) : EReal)

/-- The position in the row of a chunk's entry. -/
def place (q : Fin 200 × Fin 500) : ℕ := q.1.val * 500 + q.2.val

/-- The same as an extended real. -/
def key (q : Fin 200 × Fin 500) : EReal := ((place q : ℝ) : EReal)

/-- A place is below 100000. -/
theorem place_lt (q : Fin 200 × Fin 500) : place q < 100000 := by
  unfold place; omega

/-- Different entries have different places. -/
theorem place_injective : Function.Injective place := by
  rintro ⟨a, b⟩ ⟨c, d⟩ h
  simp only [place] at h
  exact Prod.ext (Fin.ext (by dsimp only; omega)) (Fin.ext (by dsimp only; omega))

/-- The keys are in the order of the places. -/
theorem key_lt_iff {p q : Fin 200 × Fin 500} : key p < key q ↔ place p < place q := by
  unfold key; rw [EReal.coe_lt_coe_iff, Nat.cast_lt]

/-- Positions follow the chunks. -/
theorem chunkKeys : ChunkKeys ckey key where
  ckey_inj a b h := Fin.ext (Nat.cast_injective (EReal.coe_injective h))
  key_inj a b h := place_injective (Nat.cast_injective (EReal.coe_injective h))
  key_lt c c' i i' h := by
    unfold ckey at h
    rw [EReal.coe_lt_coe_iff, Nat.cast_lt] at h
    rw [key_lt_iff]
    simp only [place]
    omega

variable (x0 : Vec Ideal S8x1x200x500 .f32) (r : Fin 8)

/-- A batch row of the block. -/
def row (q : Fin 200 × Fin 500) : EReal := x0 (ix4 r 0 q.1 q.2)

/-- The block's scores are the row. -/
theorem scores_apply (c : Fin 200) (k : Fin 500) : scores x0 (ix3 r c k) = row x0 r (c, k) := by
  unfold scores
  rw [View.ld_unit_lit _ _ (by decide)]
  pointwise [k0_pay4]
  rfl

/-- The chunks' maxima are the suprema over the chunks. -/
theorem maxima_apply (c : Fin 200) : maxima x0 (ix3 r c 0) = chunkMax (row x0 r) c := by
  unfold maxima
  rw [View.ld_unit_lit _ _ (by decide)]
  pointwise [k0_pay6, k0_pay4]
  rw [ofBits_bot, fold_max]
  rfl

/-- The row's greatest score. -/
theorem top_apply : top x0 (ix3 r 0 0) = ⨆ q, row x0 r q := by
  unfold top
  rw [View.ld_unit_lit _ _ (by decide)]
  pointwise [k0_pay7, k0_pay6, k0_pay4]
  simp only [ofBits_bot, fold_max]
  exact (iSup_prod (f := row x0 r)).symm

/-- The logarithm of the row's sum of exponentials. -/
theorem logSum_apply : logSum x0 (ix3 r 0 0) = Ideal.log (∑ q, Ideal.exp (row x0 r q - ⨆ q, row x0 r q)) := by
  unfold logSum
  have h := top_apply x0 r
  unfold top at h
  rw [View.ld_unit_lit _ _ (by decide)] at h ⊢
  pointwise [k0_pay8, k0_pay4]
  rw [h]
  exact congrArg Ideal.log (Fintype.sum_prod_type fun q => Ideal.exp (row x0 r q - ⨆ q, row x0 r q)).symm

/-- The picked chunk's number, once what is left is known. -/
theorem chunkPick_of (w : FVec Ideal S8x200x1 .f32) (v : Fin 200 → EReal) (hv : ∀ c, ⊥ < v c) {j : ℕ} (hj : j < 200)
    (hw : ∀ c, w (ix3 r c 0) = masked v ckey j c) : chunkPick w (ix3 r 0 0) = ckey (nth v ckey j) := by
  have hn := ahead_nth (v := v) chunkKeys.ckey_inj (j := j) (by rw [Fintype.card_fin]; exact hj)
  rw [chunkPick_apply]
  simp only [hw]
  rw [iSup_masked chunkKeys.ckey_inj hn]
  refine iInf_masked chunkKeys.ckey_inj hv (fun c => ?_) hn
  unfold ckey
  rw [EReal.coe_le_coe_iff]
  exact_mod_cast (c.isLt.le)

variable (hx : ∀ q, ⊥ < row x0 r q)
include hx

/-- No maximum is minus infinity. -/
theorem chunkMax_pos (c : Fin 200) : ⊥ < chunkMax (row x0 r) c := (hx (c, 0)).trans_le (le_iSup (fun i => row x0 r (c, i)) 0)

/-- The chunk maxima after `j` rounds. -/
theorem chunksLeft_apply {j : ℕ} (hj : j ≤ 200) (c : Fin 200) :
    chunksLeft (maxima x0) j (ix3 r c 0) = masked (chunkMax (row x0 r)) ckey j c := by
  induction j generalizing c with
  | zero => rw [masked_zero]; exact maxima_apply x0 r c
  | succ j ih =>
    have hn := ahead_nth (v := chunkMax (row x0 r)) chunkKeys.ckey_inj (j := j) (by rw [Fintype.card_fin]; omega)
    rw [← masked_succ chunkKeys.ckey_inj hn, ← ih (by omega)]
    show chunkDrop _ _ _ = _
    rw [chunkDrop_apply, chunkPick_of r _ _ (chunkMax_pos x0 r hx) (by omega) (fun c => ih (by omega) c)]
    rfl

/-- The `j`-th chunk picked is the one with `j` chunks' maxima ahead of it. -/
theorem pick_apply {j : ℕ} (hj : j < 200) : pick x0 j (ix3 r 0 0) = ckey (nth (chunkMax (row x0 r)) ckey j) :=
  chunkPick_of r _ _ (chunkMax_pos x0 r hx) hj (chunksLeft_apply x0 r hx hj.le)

/-- The picked chunks' scores, as entries of the row. -/
theorem rows_apply (a : Fin 8) (k : Fin 500) : rows x0 (ix3 r a k) = row x0 r (spread (row x0 r) ckey (a, k)) := by
  unfold rows
  rw [stackRows_apply, chunkRead_apply, pick_apply x0 r hx (by omega)]
  apply le_antisymm
  · refine iSup_le fun c => ?_
    split
    · next h => rw [scores_apply, chunkKeys.ckey_inj h]
    · exact bot_le
  · refine le_trans (le_of_eq ?_) (le_iSup _ (chosen (row x0 r) ckey a))
    exact (scores_apply x0 r _ k).symm.trans (if_pos rfl).symm

/-- A gathered entry's place is its key in the row. -/
theorem pos_apply (a : Fin 8) (k : Fin 500) : pos x0 (ix3 r a k) = key (spread (row x0 r) ckey (a, k)) := by
  unfold pos
  rw [places_apply, stackMid_apply, pick_apply x0 r hx (by omega)]
  unfold ckey key place
  norm_cast

/-- A gathered entry's score. -/
abbrev shortVal (q : Fin 8 × Fin 500) : EReal := row x0 r (spread (row x0 r) ckey q)
/-- A gathered entry's place. -/
abbrev shortKey (q : Fin 8 × Fin 500) : EReal := key (spread (row x0 r) ckey q)

omit hx in
/-- Different gathered entries have different places. -/
theorem shortKey_injective : Function.Injective (shortKey x0 r) :=
  fun _ _ hab => spread_injective chunkKeys (by omega) (row x0 r) (chunkKeys.key_inj hab)

/-- The greatest score left, and its position. -/
theorem item_of (z : FVec Ideal S8x8x500 .f32) {j : ℕ} (hj : j < 8)
    (hz : ∀ a k, z (ix3 r a k) = masked (shortVal x0 r) (shortKey x0 r) j (a, k)) :
    itemTop z (ix3 r 0 0) = shortVal x0 r (nth (shortVal x0 r) (shortKey x0 r) j) ∧
      itemPick (pos x0) z (ix3 r 0 0) = shortKey x0 r (nth (shortVal x0 r) (shortKey x0 r) j) := by
  have hn := ahead_nth (v := shortVal x0 r) (shortKey_injective x0 r) (j := j)
    (by rw [Fintype.card_prod, Fintype.card_fin, Fintype.card_fin]; omega)
  have ht : itemTop z (ix3 r 0 0) = shortVal x0 r (nth (shortVal x0 r) (shortKey x0 r) j) := by
    rw [itemTop_apply]
    simp only [hz]
    exact iSup_masked (shortKey_injective x0 r) hn
  refine ⟨ht, ?_⟩
  rw [itemPick_apply, ht]
  simp only [hz, pos_apply x0 r hx]
  refine iInf_masked (shortKey_injective x0 r) (fun q => hx _) (fun q => ?_) hn
  unfold shortKey key
  rw [EReal.coe_le_coe_iff]
  exact_mod_cast (place_lt _).le

/-- The scores left after `j` rounds. -/
theorem left_apply {j : ℕ} (hj : j ≤ 8) (a : Fin 8) (k : Fin 500) :
    left x0 j (ix3 r a k) = masked (shortVal x0 r) (shortKey x0 r) j (a, k) := by
  induction j generalizing a k with
  | zero => rw [masked_zero]; exact rows_apply x0 r hx a k
  | succ j ih =>
    have hn := ahead_nth (v := shortVal x0 r) (shortKey_injective x0 r) (j := j)
      (by rw [Fintype.card_prod, Fintype.card_fin, Fintype.card_fin]; omega)
    rw [← masked_succ (shortKey_injective x0 r) hn, ← ih (by omega)]
    show itemDrop _ _ _ _ = _
    rw [itemDrop_apply, show itemPick (pos x0) (itemsLeft (pos x0) (rows x0) j) (ix3 r 0 0) = _ from
      (item_of x0 r hx (left x0 j) (by omega) (fun a k => ih (by omega) a k)).2, pos_apply x0 r hx]
    rfl

/-- The score picked in round `j` is the row's `j`-th. -/
theorem itemTop_left {j : ℕ} (hj : j < 8) : itemTop (left x0 j) (ix3 r 0 0) = row x0 r (nth (row x0 r) key j) := by
  rw [(item_of x0 r hx _ hj (left_apply x0 r hx hj.le)).1]
  exact congrArg (row x0 r) (spread_nth chunkKeys (by omega) (row x0 r) hj)

/-- Its position is that of the row's `j`-th. -/
theorem itemPick_left {j : ℕ} (hj : j < 8) : itemPick (pos x0) (left x0 j) (ix3 r 0 0) = key (nth (row x0 r) key j) := by
  rw [(item_of x0 r hx _ hj (left_apply x0 r hx hj.le)).2]
  exact congrArg key (spread_nth chunkKeys (by omega) (row x0 r) hj)

/-- The row's `j`-th greatest score as a log-probability, with the beam's score added. -/
def rowTop (y : Fin 200 × Fin 500 → EReal) (b : EReal) (j : ℕ) : EReal :=
  y (nth y key j) - (⨆ q, y q) - Ideal.log (∑ q, Ideal.exp (y q - ⨆ q, y q)) + b

/-- The first output's block. -/
theorem out0_2_apply (x1 : Vec Ideal S8x1x1 .f32) (j : Fin 8) :
    out0_2 x0 x1 (ix3 r 0 j) = rowTop (row x0 r) (x1 (ix3 r 0 0)) j := by
  rw [out0_2_eq, View.canon_cons_unit_lit _ _ _ (by decide), stackLast_apply, scored_apply, itemTop_left x0 r hx j.isLt, top_apply,
    logSum_apply]
  unfold beam k0_pay5
  rw [View.ld_unit_lit _ _ (by decide)]
  pointwise
  rfl

/-- The second output's block. -/
theorem out0_3_apply (x1 : Vec Ideal S8x1x1 .f32) (j : Fin 8) :
    out0_3 x0 x1 (ix3 r 0 j) = BitVec.ofNat 32 (place (nth (row x0 r) key j)) := by
  rw [out0_3_eq, View.canon_cons_unit_lit _ _ _ (by decide)]
  show FloatOps.fptosi 32 _ = _
  rw [stackLast_apply, itemPick_left x0 r hx j.isLt]
  exact fptosi_natCast _ ((place_lt _).trans (by norm_num))

end Cert.Proof.Scan

end
-- ==== Proof.KernelScan.lean ====
/- What the scan kernel's two result arrays hold. -/
module

public import proofs.«01_k».proof.Proof.ScanRow
public import Idealize.ShloMosaic.Lib.Pipeline.ValueKit
public import Idealize.ShloMosaic.Lib.StableHlo.ReadAt

@[expose] public section

set_option maxRecDepth 16384

noncomputable section

namespace Cert.Proof.Scan

open Cert.KernelIdeal Cert.KernelIdeal.Gen Idealize.ShloMosaic Idealize.ShloMosaic.TcCoe Cert.Proof.Rank

variable (m : (ℓ : Loc nD τ sig) → Buf (Elt Ideal) ℓ) (ρ : Dev nD → PrngReg) (c : Dev nD)

/-- The scores of batch row `b`'s beam 0. -/
def beam0 (x : FVec Ideal S256x100000 .f32) (b : Fin 64) (q : Fin 200 × Fin 500) : EReal :=
  x (ix2 ⟨b.val * 4, by omega⟩ ⟨place q, place_lt q⟩)

/-- The reshaped scores, read at beam 0, are the sentence's beam 0. -/
theorem W1_v0 (b : Fin 64) (q : Fin 200 × Fin 500) :
    (W1 m ρ c (Proc.devRef .tc main_v0) : FVec Ideal S64x4x200x500 .f32) (ix4 b 0 q.1 q.2)
      = beam0 (m ((c.tc : Thread nD τ).loc main_arg0)) b q := by
  unfold W1
  after_reads_at
  rfl

/-- The sliced beam scores are those of the sentences' beam 0. -/
theorem W1_v3 (b : Fin 64) :
    (W1 m ρ c (Proc.devRef .tc main_v3) : FVec Ideal S64x1x1 .f32) (ix3 b 0 0)
      = (m ((c.tc : Thread nD τ).loc main_arg1) : FVec Ideal S256 .f32) (ix1 ⟨b.val * 4, by omega⟩) := by
  unfold W1
  after_reads_at

/-- The scan's values: each batch row's eight greatest totals. -/
def tops (x : FVec Ideal S256x100000 .f32) (bs : FVec Ideal S256 .f32) : FVec Ideal S64x1x8 .f32 := fun i =>
  rowTop (beam0 x (i 0)) (bs (ix1 ⟨(i 0).val * 4, by have := (i 0).isLt; simp at this; omega⟩)) (i 2).val

/-- The blocks of the grid's point `t`. -/
theorem index0 : ∀ t : Fin cfg0.N, win0_0.index t = ![t.val, 0, 0, 0] := by decide +kernel
/-- Window 1 of the scan moves by one block a grid point. -/
theorem index1 : ∀ t : Fin cfg0.N, win0_1.index t = ![t.val, 0, 0] := by decide +kernel
/-- Window 2 of the scan moves by one block a grid point. -/
theorem index2 : ∀ t : Fin cfg0.N, win0_2.index t = ![t.val, 0, 0] := by decide +kernel
/-- Window 3 of the scan moves by one block a grid point. -/
theorem index3 : ∀ t : Fin cfg0.N, win0_3.index t = ![t.val, 0, 0] := by decide +kernel
/-- The scan has eight grid points. -/
theorem N0 : cfg0.N = 8 := rfl

/-- Row `r` of point `t`'s block is batch row `8 t + r`. -/
theorem row_block (t : Fin cfg0.N) (r : Fin 8) (b : Fin 64) (hb : b.val = t.val * 8 + r.val) :
    row (iblk0 (V1 m ρ) c 0 t) r = beam0 (m ((c.tc : Thread nD τ).loc main_arg0)) b := by
  funext q
  rw [← W1_v0 m ρ c]
  unfold row
  blk_ext [iblk0, index0]

/-- A grid point's block of beam scores, read at one of its eight sentences. -/
theorem beam_block (t : Fin cfg0.N) (r : Fin 8) (b : Fin 64) (hb : b.val = t.val * 8 + r.val) :
    iblk0 (V1 m ρ) c 1 t (ix3 r 0 0) = (m ((c.tc : Thread nD τ).loc main_arg1) : FVec Ideal S256 .f32) (ix1 ⟨b.val * 4, by omega⟩) := by
  rw [← W1_v3 m ρ c]
  blk_ext [iblk0, index1]

/-- The scan's first result array. -/
theorem v4_0_eq (hx : ∀ b q, ⊥ < beam0 (m ((c.tc : Thread nD τ).loc main_arg0)) b q) :
    (W2 m ρ c (Proc.devRef .tc main_v4_0) : FVec Ideal S64x1x8 .f32)
      = tops (m ((c.tc : Thread nD τ).loc main_arg0)) (m ((c.tc : Thread nD τ).loc main_arg1)) := by
  refine (W2_arr m ρ c 2).trans ?_
  refine (dat0 (V1 m ρ) c).arrAt_eq_of_covers 2 _ (by decide +kernel) fun t hf y => ?_
  blk_simp
  rw [after0_2]
  idx_vars y
  obtain rfl : y1 = 0 := Subsingleton.elim _ _
  have ht : t.val < 8 := t.isLt
  have hb := row_block m ρ c t y0 ⟨t.val * 8 + y0.val, by omega⟩ rfl
  rw [out0_2_apply _ _ (by rw [hb]; exact hx _), hb, beam_block m ρ c t y0 ⟨t.val * 8 + y0.val, by omega⟩ rfl,
    show ((View.whole main_v4_0).slice (win0_2.rect t)).emb (ix3 y0 0 y2) = ix3 (⟨t.val * 8 + y0.val, by omega⟩ : Fin 64) (0 : Fin 1) y2 by
      blk_ext [index2]]
  rfl

/-- The scan's positions. -/
def spots (x : FVec Ideal S256x100000 .f32) : IVec S64x1x8 32 := fun i =>
  BitVec.ofNat 32 (place (nth (beam0 x (i 0)) key (i 2).val))

/-- The scan's second result array. -/
theorem v4_1_eq (hx : ∀ b q, ⊥ < beam0 (m ((c.tc : Thread nD τ).loc main_arg0)) b q) :
    (W2 m ρ c (Proc.devRef .tc main_v4_1) : IVec S64x1x8 32) = spots (m ((c.tc : Thread nD τ).loc main_arg0)) := by
  refine (W2_arr m ρ c 3).trans ?_
  refine (dat0 (V1 m ρ) c).arrAt_eq_of_covers 3 _ (by decide +kernel) fun t hf y => ?_
  blk_simp
  rw [after0_3]
  idx_vars y
  obtain rfl : y1 = 0 := Subsingleton.elim _ _
  have ht : t.val < 8 := t.isLt
  have hb := row_block m ρ c t y0 ⟨t.val * 8 + y0.val, by omega⟩ rfl
  rw [out0_3_apply _ _ (by rw [hb]; exact hx _), hb,
    show ((View.whole main_v4_1).slice (win0_3.rect t)).emb (ix3 y0 0 y2) = ix3 (⟨t.val * 8 + y0.val, by omega⟩ : Fin 64) (0 : Fin 1) y2 by
      blk_ext [index3]]
  rfl

/-! ## What the merge kernel is given -/

/-- The candidates handed to the merge are the scan's totals. -/
theorem W3_v5 (hx : ∀ b q, ⊥ < beam0 (m ((c.tc : Thread nD τ).loc main_arg0)) b q) (b : Fin 64) (j : Fin 8) :
    (W3 m ρ c (Proc.devRef .tc main_v5) : FVec Ideal S64x8 .f32) (ix2 b j)
      = rowTop (beam0 (m ((c.tc : Thread nD τ).loc main_arg0)) b)
        ((m ((c.tc : Thread nD τ).loc main_arg1) : FVec Ideal S256 .f32) (ix1 ⟨b.val * 4, by omega⟩)) j := by
  have h := v4_0_eq m ρ c hx
  unfold W3
  after_reads_at
  exact congrFun h (ix3 b 0 j)

/-- The positions handed to the merge are the scan's positions. -/
theorem W3_v6 (hx : ∀ b q, ⊥ < beam0 (m ((c.tc : Thread nD τ).loc main_arg0)) b q) (b : Fin 64) (j : Fin 8) :
    (W3 m ρ c (Proc.devRef .tc main_v6) : IVec S64x8 32) (ix2 b j)
      = BitVec.ofNat 32 (place (nth (beam0 (m ((c.tc : Thread nD τ).loc main_arg0)) b) key j)) := by
  have h := v4_1_eq m ρ c hx
  unfold W3
  after_reads_at
  exact congrFun h (ix3 b 0 j)

/-- The token words, the four beams of a batch row side by side. -/
theorem W3_v7 (b : Fin 64) (k : Fin 4) (l : Fin 32) :
    (W3 m ρ c (Proc.devRef .tc main_v7) : IVec S64x128 32) (ix2 b ⟨k.val * 32 + l.val, by omega⟩)
      = (m ((c.tc : Thread nD τ).loc main_arg2) : IVec S256x32 32) (ix2 ⟨b.val * 4 + k.val, by omega⟩ l) := by
  have h := W2_args m ρ c main_arg2 (by decide)
  unfold W3
  after_reads_at
  refine (congrFun h _).trans ?_
  have e : (⟨b.val * 4 + (k.val * 32 + l.val) / 32, by omega⟩ : Fin 256) = ⟨b.val * 4 + k.val, by omega⟩ := Fin.ext (by dsimp only; omega)
  exact congrArg (fun r : Fin 256 => (m ((c.tc : Thread nD τ).loc main_arg2) : IVec S256x32 32) (ix2 r l)) e

end Cert.Proof.Scan

end
-- ==== Proof.MergeOps.lean ====
/- The vector operations of the merge kernel, named after what they do. A block is 64 batch rows of 8 candidates. -/
module

public import proofs.«01_k».proof.Proof.Gen.KernelIdeal.Skeleton

@[expose] public section

noncomputable section

namespace Cert.Proof.Merge

open Idealize.ShloMosaic Cert.KernelIdeal Cert.KernelIdeal.Gen

variable {F : FTy → Type} [FloatOps F]

/-- The greatest candidate left in each row. -/
def best (z : FVec F S64x8 .f32) : FVec F S64x1 .f32 :=
  shapeCast S64x1 (multiReduction .maximumf [1] S64 z 0xFF800000#32 reduces_S64x8_S64 (.inl rfl) rfl) shapeCasts_S64_S64x1

/-- The least position among those that hold it. -/
def first (pos z : FVec F S64x8 .f32) : FVec F S64x1 .f32 :=
  shapeCast S64x1 (multiReduction .minimumf [1] S64
    (select (cmpf .oeq z (broadcastTo S64x8 (best z) broadcasts_S64x1_S64x8)) pos
      (broadcast S64x8 (Scalar.ofBits .f32 0x48C35000#32)))
    0x7F800000#32 reduces_S64x8_S64 (.inl rfl) rfl) shapeCasts_S64_S64x1

/-- The candidates with that position taken out. -/
def without (pos z : FVec F S64x8 .f32) (f : FVec F S64x1 .f32) : FVec F S64x8 .f32 :=
  select (cmpf .oeq pos (broadcastTo S64x8 f broadcasts_S64x1_S64x8))
    (broadcast S64x8 (Scalar.ofBits .f32 0xFF800000#32)) z

/-- The candidates after `j` rounds. -/
def still (pos z : FVec F S64x8 .f32) : ℕ → FVec F S64x8 .f32
  | 0 => z
  | j + 1 => without pos (still pos z j) (first pos (still pos z j))

/-- Eight columns side by side. -/
def columns (f : Fin 8 → FVec F S64x1 .f32) : FVec F S64x8 .f32 :=
  concatenate S64x8 1 [⟨S64x1, f 0⟩, ⟨S64x1, f 1⟩, ⟨S64x1, f 2⟩, ⟨S64x1, f 3⟩, ⟨S64x1, f 4⟩, ⟨S64x1, f 5⟩, ⟨S64x1, f 6⟩, ⟨S64x1, f 7⟩]
    concatenates_S64x1_S64x1_S64x1_S64x1_S64x1_S64x1_S64x1_S64x1_S64x8_d1

/-- The first four columns. -/
def four (s : FVec F S64x8 .f32) : FVec F S64x4 .f32 := extractStridedSlice S64x4 ![0, 0] s slices_S64x8_o0_0_S64x4

/-- A position's beam, before it is made an integer. -/
def beamF (s : FVec F S64x4 .f32) : FVec F S64x4 .f32 := floor (mulf s (broadcast S64x4 (Scalar.ofBits .f32 0x3727C5AC#32)))

/-- The beam of each position. -/
def beamI (s : FVec F S64x4 .f32) : IVec S64x4 32 := fptosi 32 (beamF s)

/-- The word of each position. -/
def wordI (s : FVec F S64x4 .f32) : IVec S64x4 32 :=
  fptosi 32 (subf s (mulf (beamF s) (broadcast S64x4 (Scalar.ofBits .f32 0x47C35000#32))))

/-- One beam's tokens where `b` names that beam, and zero elsewhere. -/
def share (ids : IVec S64x128 32) (b : IVec S64x1 32) (k : BitVec 32) (o : Fin 2 → ℕ) (h : S64x128.Slices o S64x32) : IVec S64x32 32 :=
  muli (broadcastTo S64x32 (select (cmpi .eq b (broadcast S64x1 k)) (broadcast S64x1 1#32) (broadcast S64x1 0#32))
    broadcasts_S64x1_S64x32) (extractStridedSlice S64x32 o ids h)

/-- The tokens of the beam that `b` names: the sum of the four shares. -/
def tokens (ids : IVec S64x128 32) (b : IVec S64x1 32) : IVec S64x32 32 :=
  addi (addi (addi (addi (broadcast S64x32 0#32)
    (share ids b 0#32 ![0, 0] slices_S64x128_o0_0_S64x32))
    (share ids b 1#32 ![0, 32] slices_S64x128_o0_32_S64x32))
    (share ids b 2#32 ![0, 64] slices_S64x128_o0_64_S64x32))
    (share ids b 3#32 ![0, 96] slices_S64x128_o0_96_S64x32)

end Cert.Proof.Merge

end
-- ==== Proof.MergeFold.lean ====
/- What the merge kernel stores, in the named steps: the candidates picked one after the other, and for the first four the
   tokens of their beams with their words. -/
module

public import proofs.«01_k».proof.Proof.MergeOps
public import proofs.«01_k».proof.Proof.Gen.KernelIdeal.Frame
public import Idealize.ShloMosaic.Lib.Pipeline.ReadBack
public import Idealize.ShloMosaic.Lib.Pipeline.ValueKit

@[expose] public section

set_option maxRecDepth 16384

noncomputable section

namespace Cert.Proof.Merge

open Idealize.ShloMosaic Idealize.ShloMosaic.TcCoe Cert.KernelIdeal Cert.KernelIdeal.Gen

variable {F : FTy → Type} [FloatOps F] (x0 : Vec F S64x8 .f32) (x1 : Vec F S64x8 .i32) (x2 : Vec F S64x128 .i32)

/-- The candidates. -/
def cand : FVec F S64x8 .f32 := k1_pay3 x0

/-- Their positions. -/
def posn : FVec F S64x8 .f32 := k1_pay4 x1

/-- The candidates left after `j` rounds. -/
def rest (j : ℕ) : FVec F S64x8 .f32 := still (posn x1) (cand x0) j

/-- The position picked in round `j`. -/
def pickAt (j : ℕ) : FVec F S64x1 .f32 := first (posn x1) (rest x0 x1 j)

/-- The value picked in round `j`. -/
def bestAt (j : ℕ) : FVec F S64x1 .f32 := best (rest x0 x1 j)

/-! ## The rounds -/

/-- The printed step that finds the best number of round 0. -/
theorem best0_eq : k1_pay5 x0 = bestAt x0 x1 0 := rfl
/-- The printed step that finds the position of round 0. -/
theorem pick0_eq : k1_pay6 x0 x1 = pickAt x0 x1 0 := rfl
/-- The printed step that leaves the candidates of round 1. -/
theorem rest1_eq : k1_pay7 x0 x1 = rest x0 x1 1 := rfl
/-- The printed step that finds the best number of round 1. -/
theorem best1_eq : k1_pay8 x0 x1 = bestAt x0 x1 1 := rfl
/-- The printed step that finds the position of round 1. -/
theorem pick1_eq : k1_pay9 x0 x1 = pickAt x0 x1 1 := rfl
/-- The printed step that leaves the candidates of round 2. -/
theorem rest2_eq : k1_pay10 x0 x1 = rest x0 x1 2 := by unfold k1_pay10; rw [pick1_eq, rest1_eq]; rfl
/-- The printed step that finds the best number of round 2. -/
theorem best2_eq : k1_pay11 x0 x1 = bestAt x0 x1 2 := by unfold k1_pay11; rw [rest2_eq]; rfl
/-- The printed step that finds the position of round 2. -/
theorem pick2_eq : k1_pay12 x0 x1 = pickAt x0 x1 2 := by unfold k1_pay12; rw [best2_eq, rest2_eq]; rfl
/-- The printed step that leaves the candidates of round 3. -/
theorem rest3_eq : k1_pay13 x0 x1 = rest x0 x1 3 := by unfold k1_pay13; rw [pick2_eq, rest2_eq]; rfl
/-- The printed step that finds the best number of round 3. -/
theorem best3_eq : k1_pay14 x0 x1 = bestAt x0 x1 3 := by unfold k1_pay14; rw [rest3_eq]; rfl
/-- The printed step that finds the position of round 3. -/
theorem pick3_eq : k1_pay15 (posn x1) (rest x0 x1 3) (bestAt x0 x1 3) = pickAt x0 x1 3 := rfl
/-- The printed step that leaves the candidates of round 4. -/
theorem rest4_eq : k1_pay16 (posn x1) (rest x0 x1 3) (bestAt x0 x1 3) = rest x0 x1 4 := rfl
/-- The printed step that finds the best number of round 4. -/
theorem best4_eq : k1_pay17 (posn x1) (rest x0 x1 3) (bestAt x0 x1 3) = bestAt x0 x1 4 := rfl
/-- The printed step that finds the position of round 4. -/
theorem pick4_eq : k1_pay18 (posn x1) (rest x0 x1 3) (bestAt x0 x1 3) = pickAt x0 x1 4 := rfl
/-- The printed step that leaves the candidates of round 5. -/
theorem rest5_eq : k1_pay19 (posn x1) (rest x0 x1 3) (bestAt x0 x1 3) = rest x0 x1 5 := by
  unfold k1_pay19; rw [pick4_eq, rest4_eq]; rfl
/-- The printed step that finds the best number of round 5. -/
theorem best5_eq : k1_pay20 (posn x1) (rest x0 x1 3) (bestAt x0 x1 3) = bestAt x0 x1 5 := by
  unfold k1_pay20; rw [rest5_eq]; rfl
/-- The printed step that finds the position of round 5. -/
theorem pick5_eq : k1_pay21 (posn x1) (rest x0 x1 3) (bestAt x0 x1 3) = pickAt x0 x1 5 := by
  unfold k1_pay21; rw [best5_eq, rest5_eq]; rfl
/-- The printed step that leaves the candidates of round 6. -/
theorem rest6_eq : k1_pay22 (posn x1) (rest x0 x1 3) (bestAt x0 x1 3) = rest x0 x1 6 := by
  unfold k1_pay22; rw [pick5_eq, rest5_eq]; rfl
/-- The printed step that finds the best number of round 6. -/
theorem best6_eq : k1_pay23 (posn x1) (rest x0 x1 3) (bestAt x0 x1 3) = bestAt x0 x1 6 := by
  unfold k1_pay23; rw [rest6_eq]; rfl
/-- The printed step that finds the position of round 6. -/
theorem pick6_eq : k1_pay24 (posn x1) (rest x0 x1 3) (bestAt x0 x1 3) = pickAt x0 x1 6 := by
  unfold k1_pay24; rw [best6_eq, rest6_eq]; rfl
/-- The printed step that leaves the candidates of round 7. -/
theorem rest7_eq : k1_pay27 (rest x0 x1 6) (k1_pay25 (posn x1) (rest x0 x1 3) (bestAt x0 x1 3)) k1_pay26 = rest x0 x1 7 := by
  unfold k1_pay27 k1_pay25; rw [pick6_eq]; rfl

/-! ## What is stored -/

/-- The values, eight to a row. -/
def values : FVec F S64x8 .f32 := columns fun j => bestAt x0 x1 j

/-- The positions, eight to a row. -/
def picks : FVec F S64x8 .f32 := columns fun j => pickAt x0 x1 j

/-- The printed list of the eight best numbers. -/
theorem values_eq : k1_pay29 (bestAt x0 x1 0) (bestAt x0 x1 1) (bestAt x0 x1 2) (bestAt x0 x1 3) (bestAt x0 x1 4) (bestAt x0 x1 5)
    (rest x0 x1 6) (bestAt x0 x1 6) (k1_pay25 (posn x1) (rest x0 x1 3) (bestAt x0 x1 3)) k1_pay26 = values x0 x1 := by
  unfold k1_pay29 k1_pay28; rw [rest7_eq]; rfl

/-- The printed list of the eight positions. -/
theorem picks_eq : k1_pay30 (posn x1) (pickAt x0 x1 0) (pickAt x0 x1 1) (pickAt x0 x1 2) (pickAt x0 x1 3) (pickAt x0 x1 4)
    (pickAt x0 x1 5) (rest x0 x1 6) (pickAt x0 x1 6) (k1_pay25 (posn x1) (rest x0 x1 3) (bestAt x0 x1 3)) k1_pay26 = picks x0 x1 := by
  unfold k1_pay30 k1_pay28; rw [rest7_eq]; rfl

/-- The beams of the first four picks. -/
def beams : IVec S64x4 32 := beamI (four (picks x0 x1))

/-- The words of the first four picks. -/
def words : IVec S64x4 32 := wordI (four (picks x0 x1))

/-- The tokens of all beams. -/
def held : IVec S64x128 32 := k1_pay37 x2

/-- The printed beams of the first four positions, before they become integers. -/
theorem beamF_eq : k1_pay34 (posn x1) (pickAt x0 x1 0) (pickAt x0 x1 1) (pickAt x0 x1 2) (pickAt x0 x1 3) (pickAt x0 x1 4)
    (pickAt x0 x1 5) (rest x0 x1 6) (pickAt x0 x1 6) (k1_pay25 (posn x1) (rest x0 x1 3) (bestAt x0 x1 3)) k1_pay26 = beamF (four (picks x0 x1)) := by
  unfold k1_pay34 k1_pay33; rw [picks_eq]; rfl

/-- The printed beams of the first four positions. -/
theorem beams_eq : k1_pay35 (posn x1) (pickAt x0 x1 0) (pickAt x0 x1 1) (pickAt x0 x1 2) (pickAt x0 x1 3) (pickAt x0 x1 4)
    (pickAt x0 x1 5) (rest x0 x1 6) (pickAt x0 x1 6) (k1_pay25 (posn x1) (rest x0 x1 3) (bestAt x0 x1 3)) k1_pay26 = beams x0 x1 := by
  unfold k1_pay35; rw [beamF_eq]; rfl

/-- The printed words of the first four positions. -/
theorem words_eq : k1_pay36 (posn x1) (pickAt x0 x1 0) (pickAt x0 x1 1) (pickAt x0 x1 2) (pickAt x0 x1 3) (pickAt x0 x1 4)
    (pickAt x0 x1 5) (rest x0 x1 6) (pickAt x0 x1 6) (k1_pay25 (posn x1) (rest x0 x1 3) (bestAt x0 x1 3)) k1_pay26 = words x0 x1 := by
  unfold k1_pay36 k1_pay33; rw [beamF_eq, picks_eq]; rfl

/-- One of four columns. -/
def column (v : IVec S64x4 32) : Fin 4 → IVec S64x1 32
  | 0 => k1_pay42 v
  | 1 => k1_pay47 v
  | 2 => k1_pay52 v
  | 3 => k1_pay2 v

/-- Four runs of 32 columns, each followed by one column. -/
def lines (w : Fin 4 → IVec S64x1 32) (k : Fin 4 → IVec S64x32 32) : List (View.Piece (Elt F) S64x132 .i32) := [
  ⟨Rect.unit ![0, 131] ![64, 1] inb_S64x132_S64x1_0_131, w 3⟩,
  ⟨Rect.unit ![0, 99] ![64, 32] inb_S64x132_S64x32_0_99, k 3⟩,
  ⟨Rect.unit ![0, 98] ![64, 1] inb_S64x132_S64x1_0_98, w 2⟩,
  ⟨Rect.unit ![0, 66] ![64, 32] inb_S64x132_S64x32_0_66, k 2⟩,
  ⟨Rect.unit ![0, 65] ![64, 1] inb_S64x132_S64x1_0_65, w 1⟩,
  ⟨Rect.unit ![0, 33] ![64, 32] inb_S64x132_S64x32_0_33, k 1⟩,
  ⟨Rect.unit ![0, 32] ![64, 1] inb_S64x132_S64x1_0_32, w 0⟩,
  ⟨Rect.unit ![0, 0] ![64, 32] inb_S64x132_S64x32_0_0, k 0⟩]

/-- They fill the block. -/
theorem lines_cover (w : Fin 4 → IVec S64x1 32) (k : Fin 4 → IVec S64x32 32) (y : S64x132.Idx) :
    ∃ p ∈ lines (F := F) w k, y ∈ p.1.set :=
  View.cover_of_tiledBy (lines w k) ![64, 1] (by sl_kernel_rfl) y

variable (V : (c : Dev nD) → (b : Ref sig .tc) → Buf (Elt F) (c.tc.loc b)) (c : Dev nD) (t : Fin cfg1.N)

/-- The first output's block: the values. -/
theorem out3_eq : (outsAt1 V c t).1 = values (iblk1 V c 0 t) (iblk1 V c 1 t) := by
  unfold outsAt1
  dsimp only
  generalize iblk1 V c 0 t = x0
  generalize iblk1 V c 1 t = x1
  frame_out
  simp only [read_unread_whole]
  rw [best0_eq x0 x1, best1_eq, best2_eq, best3_eq, rest3_eq]
  change k1_pay29 _ _ _ _ (k1_pay17 (posn x1) _ _) (k1_pay20 (posn x1) _ _) (k1_pay22 (posn x1) _ _) (k1_pay23 (posn x1) _ _) (k1_pay25 (posn x1) _ _) _ = _
  rw [best4_eq, best5_eq, rest6_eq, best6_eq, values_eq]

/-- The second output's block: their positions. -/
theorem out4_eq : (outsAt1 V c t).2.1 = fptosi 32 (picks (iblk1 V c 0 t) (iblk1 V c 1 t)) := by
  unfold outsAt1
  dsimp only
  generalize iblk1 V c 0 t = x0
  generalize iblk1 V c 1 t = x1
  frame_out
  simp only [read_unread_whole]
  unfold k1_pay31
  rw [pick0_eq x0 x1, pick1_eq, pick2_eq, rest3_eq, best3_eq]
  simp only [show k1_pay4 x1 = posn x1 from rfl, pick3_eq, pick4_eq, pick5_eq, pick6_eq, rest6_eq, picks_eq]

/-- The third output's block: the first four values. -/
theorem out5_eq : (outsAt1 V c t).2.2.1 = four (values (iblk1 V c 0 t) (iblk1 V c 1 t)) := by
  unfold outsAt1
  dsimp only
  generalize iblk1 V c 0 t = x0
  generalize iblk1 V c 1 t = x1
  frame_out
  simp only [read_unread_whole]
  unfold k1_pay32
  rw [best0_eq x0 x1, best1_eq, best2_eq, best3_eq, rest3_eq]
  change extractStridedSlice _ _ (k1_pay29 _ _ _ _ (k1_pay17 (posn x1) _ _) (k1_pay20 (posn x1) _ _) (k1_pay22 (posn x1) _ _) (k1_pay23 (posn x1) _ _) (k1_pay25 (posn x1) _ _) _) _ = _
  rw [best4_eq, best5_eq, rest6_eq, best6_eq, values_eq]
  rfl

/-- The fourth output's block: for each of the first four picks the tokens of its beam, then its word. -/
theorem out6_eq : (outsAt1 V c t).2.2.2 = View.canon (lines (column (words (iblk1 V c 0 t) (iblk1 V c 1 t)))
    fun j => tokens (held (iblk1 V c 2 t)) (column (beams (iblk1 V c 0 t) (iblk1 V c 1 t)) j)) := by
  unfold outsAt1
  dsimp only
  generalize iblk1 V c 0 t = x0
  generalize iblk1 V c 1 t = x1
  generalize iblk1 V c 2 t = x2
  frame_out
  simp only [read_unread_whole]
  rw [pick0_eq x0 x1, pick1_eq, pick2_eq, rest3_eq, best3_eq]
  simp only [show k1_pay4 x1 = posn x1 from rfl, pick3_eq, pick4_eq, pick5_eq, pick6_eq, rest6_eq]
  unfold k1_pay38 k1_pay39 k1_pay38
  simp only [beams_eq, words_eq]
  rfl

end Cert.Proof.Merge

end
-- ==== Proof.MergeRead.lean ====
/- The merge kernel's steps read at one batch row, over the extended reals. -/
module

public import proofs.«01_k».proof.Proof.MergeFold
public import proofs.«01_k».proof.Proof.Literals
public import Idealize.ShloMosaic.Lib.Pointwise

@[expose] public section

set_option maxRecDepth 16384

noncomputable section

namespace Cert.Proof.Merge

open Idealize.ShloMosaic Cert.KernelIdeal Cert.KernelIdeal.Gen

variable (r : Fin 64)

/-- The best of a row is the supremum of its eight numbers. -/
theorem best_apply (z : FVec Ideal S64x8 .f32) : best z (ix2 r 0) = ⨆ i : Fin 8, z (ix2 r i) := by
  pointwise [best]
  rw [ofBits_bot, fold_max]

/-- The first place of the best is the least position among those that hold it. -/
theorem first_apply (pos z : FVec Ideal S64x8 .f32) :
    first pos z (ix2 r 0) = ⨅ i : Fin 8, if z (ix2 r i) = ⨆ i : Fin 8, z (ix2 r i) then pos (ix2 r i) else ((400000 : ℝ) : EReal) := by
  pointwise [first]
  simp only [ofBits_top, fold_min, ofBits_400000, best_apply]

/-- Striking out a position puts minus infinity there. -/
theorem without_apply (pos z : FVec Ideal S64x8 .f32) (f : FVec Ideal S64x1 .f32) (i : Fin 8) :
    without pos z f (ix2 r i) = if pos (ix2 r i) = f (ix2 r 0) then ⊥ else z (ix2 r i) := by
  pointwise [without]
  rw [ofBits_bot]

/-- Eight columns side by side, read at one of them. -/
theorem columns_apply (f : Fin 8 → FVec Ideal S64x1 .f32) (j : Fin 8) : columns f (ix2 r j) = f j (ix2 r 0) := by
  pointwise [columns]
  fin_vals j with hk
  all_goals simp only [hk, Nat.reduceSub, Nat.reduceLT, ↓reduceDIte]
  all_goals exact congrArg (fun b : Fin 8 => f b (ix2 r 0)) (Fin.ext hk.symm)

/-- The first four of eight columns. -/
theorem four_apply (s : FVec Ideal S64x8 .f32) (j : Fin 4) : four s (ix2 r j) = s (ix2 r ⟨j.val, by omega⟩) := by
  pointwise [four]

/-- The factor that divides a position by the number of words: a little less than one in a hundred thousand. -/
theorem ofBits_recip : Ideal.ofBits .f32 0x3727C5AC#32 = ((10995116 / 2 ^ 40 : ℝ) : EReal) := by
  simp [Ideal.ofBits, Ideal.ieee, -EReal.coe_mul]; norm_num

/-- A position of beam 0 has beam 0. -/
theorem beamF_apply (s : FVec Ideal S64x4 .f32) (j : Fin 4) (n : ℕ) (hn : n < 100000) (hs : s (ix2 r j) = ((n : ℝ) : EReal)) :
    beamF s (ix2 r j) = ((0 : ℝ) : EReal) := by
  pointwise [beamF]
  rw [hs, ofBits_recip, ← EReal.coe_mul]
  show (((⌊(n : ℝ) * (10995116 / 2 ^ 40)⌋ : ℤ) : ℝ) : EReal) = _
  have h : ⌊(n : ℝ) * (10995116 / 2 ^ 40)⌋ = 0 := by
    rw [Int.floor_eq_zero_iff]
    have : (n : ℝ) < 100000 := by exact_mod_cast hn
    constructor
    · positivity
    · norm_num; linarith
  rw [h, Int.cast_zero]

/-- The beam of a position below 100000, as an integer, is 0. -/
theorem beamI_apply (s : FVec Ideal S64x4 .f32) (j : Fin 4) (n : ℕ) (hn : n < 100000) (hs : s (ix2 r j) = ((n : ℝ) : EReal)) :
    beamI s (ix2 r j) = 0#32 := by
  show FloatOps.fptosi 32 (beamF s (ix2 r j)) = _
  rw [beamF_apply r s j n hn hs]
  exact_mod_cast fptosi_natCast 0 (by norm_num)

/-- And its word is the position. -/
theorem wordI_apply (s : FVec Ideal S64x4 .f32) (j : Fin 4) (n : ℕ) (hn : n < 100000) (hs : s (ix2 r j) = ((n : ℝ) : EReal)) :
    wordI s (ix2 r j) = BitVec.ofNat 32 n := by
  pointwise [wordI]
  rw [beamF_apply r s j n hn hs, hs, ofBits_100000, ← EReal.coe_mul, ← EReal.coe_sub, zero_mul, sub_zero]
  exact fptosi_natCast n (by omega)

/-- One column of four. -/
theorem column_apply (v : IVec S64x4 32) (j : Fin 4) : column v j (ix2 r 0) = v (ix2 r j) := by
  fin_cases j
  · pointwise [column, k1_pay42]
  · pointwise [column, k1_pay47]
  · pointwise [column, k1_pay52]
  · pointwise [column, k1_pay2]

/-- A word times one where two numbers agree, and times zero where they do not. -/
theorem mul_same (a x : BitVec 32) : IntOp.muli (Scalar.select (IntOp.cmpi .eq a a) 1#32 0#32) x = x := by
  simp [IntOp.muli, Scalar.select, IntOp.cmpi]

/-- A row of tokens that is not selected adds zero. -/
theorem mul_other (a k x : BitVec 32) (h : a ≠ k) : IntOp.muli (Scalar.select (IntOp.cmpi .eq a k) 1#32 0#32) x = 0#32 := by
  have hk : (a == k) = false := by simpa using h
  simp [IntOp.muli, Scalar.select, IntOp.cmpi, hk]

/-- A share of a beam that is not named is zero. -/
theorem share_other (ids : IVec S64x128 32) (b : IVec S64x1 32) (k : BitVec 32) (o : Fin 2 → ℕ) (h : S64x128.Slices o S64x32)
    (hb : b (ix2 r 0) ≠ k) (l : Fin 32) : share ids b k o h (ix2 r l) = 0#32 := by
  pointwise [share]
  exact mul_other _ _ _ hb

/-- The tokens of beam 0 are the first 32. -/
theorem tokens_apply (ids : IVec S64x128 32) (b : IVec S64x1 32) (hb : b (ix2 r 0) = 0#32) (l : Fin 32) :
    tokens ids b (ix2 r l) = ids (ix2 r ⟨l.val, by omega⟩) := by
  have h0 : share ids b 0#32 ![0, 0] slices_S64x128_o0_0_S64x32 (ix2 r l) = ids (ix2 r ⟨l.val, by omega⟩) := by
    pointwise [share]
    rw [hb]
    exact mul_same _ _
  show (((0#32 + share _ _ _ _ _ (ix2 r l)) + share _ _ _ _ _ (ix2 r l)) + share _ _ _ _ _ (ix2 r l)) + share _ _ _ _ _ (ix2 r l) = _
  rw [h0, share_other _ _ _ _ _ _ (by rw [hb]; decide), share_other _ _ _ _ _ _ (by rw [hb]; decide),
    share_other _ _ _ _ _ _ (by rw [hb]; decide)]
  simp

/-- The tokens are read as they are. -/
theorem held_apply (x2 : Vec Ideal S64x128 .i32) (l : Fin 128) : held x2 (ix2 r l) = x2 (ix2 r l) := by
  pointwise [held, k1_pay37]

/-- The candidates are read as they are. -/
theorem cand_apply (x0 : Vec Ideal S64x8 .f32) (i : Fin 8) : cand x0 (ix2 r i) = x0 (ix2 r i) := by
  pointwise [cand, k1_pay3]

/-- The positions are read as floating-point numbers. -/
theorem posn_apply (x1 : Vec Ideal S64x8 .i32) (i : Fin 8) : posn x1 (ix2 r i) = FloatOps.sitofp FTy.f32 (x1 (ix2 r i)) := by
  pointwise [posn, k1_pay4]

end Cert.Proof.Merge

end
-- ==== Proof.MergeRow.lean ====
/- What the merge kernel stores of one batch row: candidates that come in their order are picked in that order, so the
   first two outputs are the candidates and their positions again. -/
module

public import proofs.«01_k».proof.Proof.MergeRead
public import proofs.«01_k».proof.Proof.Rank

@[expose] public section

set_option maxRecDepth 16384

noncomputable section

namespace Cert.Proof.Merge

open Idealize.ShloMosaic Idealize.ShloMosaic.TcCoe Cert.KernelIdeal Cert.KernelIdeal.Gen Cert.Proof.Rank

/-- A family in order has as many entries before each as its index says. -/
theorem ahead_of_order {n : ℕ} {v key : Fin n → EReal} (h : ∀ a b, a < b → Before v key a b) (j : Fin n) : ahead v key j = j.val := by
  classical
  unfold ahead
  rw [show (Finset.univ.filter fun i => Before v key i j) = Finset.Iio j by
    ext i
    simp only [Finset.mem_filter, Finset.mem_univ, true_and, Finset.mem_Iio]
    refine ⟨fun hi => ?_, h i j⟩
    by_contra hlt
    rcases eq_or_lt_of_le (not_lt.mp hlt) with e | e
    · subst e; exact Before.irrefl _ hi
    · exact Before.irrefl j ((h j i e).trans hi)]
  exact Fin.card_Iio j

/-- The candidates of batch row `r`, at positions `n`, come in order: greater first, and of two equal ones the one at the
    lesser position first. -/
structure Ordered (x0 : Vec Ideal S64x8 .f32) (x1 : Vec Ideal S64x8 .i32) (r : Fin 64) (n : Fin 8 → ℕ) : Prop where
  pos : ∀ i, x1 (ix2 r i) = BitVec.ofNat 32 (n i)
  lt : ∀ i, n i < 100000
  inj : Function.Injective n
  bot : ∀ i, (⊥ : EReal) < x0 (ix2 r i)
  order : ∀ a b : Fin 8, a < b → Before (fun i : Fin 8 => (x0 (ix2 r i) : EReal)) (fun i => ((n i : ℝ) : EReal)) a b

variable {x0 : Vec Ideal S64x8 .f32} {x1 : Vec Ideal S64x8 .i32} {r : Fin 64} {n : Fin 8 → ℕ} (h : Ordered x0 x1 r n)
include h

/-- A position, read as a number, is that number. -/
theorem posn_eq (i : Fin 8) : posn x1 (ix2 r i) = ((n i : ℝ) : EReal) := by
  rw [posn_apply, h.pos, sitofp_natCast _ (by have := h.lt i; omega)]

/-- Different candidates have different positions. -/
theorem pos_inj : Function.Injective fun i => ((n i : ℝ) : EReal) := fun a b e =>
  h.inj (by simpa using e)

/-- The pick of a round, once what is left is known. -/
theorem first_of (z : FVec Ideal S64x8 .f32) (j : Fin 8)
    (hz : ∀ i, z (ix2 r i) = masked (fun i : Fin 8 => (x0 (ix2 r i) : EReal)) (fun i => ((n i : ℝ) : EReal)) j i) :
    best z (ix2 r 0) = x0 (ix2 r j) ∧ first (posn x1) z (ix2 r 0) = ((n j : ℝ) : EReal) := by
  have hj := ahead_of_order h.order j
  have hs : ⨆ i : Fin 8, z (ix2 r i) = x0 (ix2 r j) := by
    simp only [hz]
    exact iSup_masked (pos_inj h) hj
  refine ⟨(best_apply r z).trans hs, ?_⟩
  rw [first_apply, hs]
  simp only [hz, posn_eq h]
  refine iInf_masked (pos_inj h) h.bot (fun i => ?_) hj
  rw [EReal.coe_le_coe_iff]
  have : (n i : ℝ) < 100000 := by exact_mod_cast h.lt i
  linarith

/-- The candidates left after `j` rounds. -/
theorem rest_apply {j : ℕ} (hj : j ≤ 8) (i : Fin 8) :
    rest x0 x1 j (ix2 r i) = masked (fun i : Fin 8 => (x0 (ix2 r i) : EReal)) (fun i => ((n i : ℝ) : EReal)) j i := by
  induction j generalizing i with
  | zero => rw [masked_zero]; exact cand_apply r x0 i
  | succ j ih =>
    have hn := ahead_of_order h.order ⟨j, by omega⟩
    rw [← masked_succ (pos_inj h) hn, ← ih (by omega)]
    show without _ _ _ _ = _
    rw [without_apply, show first (posn x1) (still (posn x1) (cand x0) j) (ix2 r 0) = _ from
      (first_of h (rest x0 x1 j) ⟨j, by omega⟩ fun i => ih (by omega) i).2, posn_eq h]
    rfl

/-- The values stored are the candidates. -/
theorem values_apply (j : Fin 8) : values x0 x1 (ix2 r j) = x0 (ix2 r j) :=
  (columns_apply r _ j).trans (first_of h _ j (rest_apply h j.isLt.le)).1

/-- The positions picked are those of the candidates in order. -/
theorem picks_apply (j : Fin 8) : picks x0 x1 (ix2 r j) = ((n j : ℝ) : EReal) :=
  (columns_apply r _ j).trans (first_of h _ j (rest_apply h j.isLt.le)).2

/-- The positions stored are theirs. -/
theorem spots_apply (j : Fin 8) : fptosi 32 (picks x0 x1) (ix2 r j) = BitVec.ofNat 32 (n j) := by
  show FloatOps.fptosi 32 (picks x0 x1 (ix2 r j)) = _
  rw [picks_apply h]
  exact fptosi_natCast _ (by have := h.lt j; omega)

/-- Every beam found is beam 0. -/
theorem beams_apply (j : Fin 4) : beams x0 x1 (ix2 r j) = 0#32 :=
  beamI_apply r _ j _ (h.lt ⟨j.val, by omega⟩) ((four_apply r _ j).trans (picks_apply h _))

/-- Every word found is its position. -/
theorem words_apply (j : Fin 4) : words x0 x1 (ix2 r j) = BitVec.ofNat 32 (n ⟨j.val, by omega⟩) :=
  wordI_apply r _ j _ (h.lt ⟨j.val, by omega⟩) ((four_apply r _ j).trans (picks_apply h _))

omit h in
/-- Four times the tokens `a` of one beam, each followed by a word. -/
def lineOf (a : Fin 32 → BitVec 32) (w : Fin 4 → BitVec 32) (i : Fin 132) : BitVec 32 :=
  if hi : i.val % 33 < 32 then a ⟨i.val % 33, hi⟩ else w ⟨i.val / 33, by omega⟩

omit h in
/-- A line's 33rd entries are the words. -/
theorem lineOf_word (a : Fin 32 → BitVec 32) (w : Fin 4 → BitVec 32) (j : Fin 4) (i : Fin 132) (hi : i.val = j.val * 33 + 32) :
    lineOf a w i = w j := by
  unfold lineOf
  rw [dif_neg (by omega)]
  exact congrArg w (Fin.ext (by show i.val / 33 = _; omega))

omit h in
/-- A line's other entries are the tokens. -/
theorem lineOf_token (a : Fin 32 → BitVec 32) (w : Fin 4 → BitVec 32) (l : Fin 32) (i : Fin 132)
    (hi : i.val % 33 = l.val) : lineOf a w i = a l := by
  unfold lineOf
  rw [dif_pos (by omega)]
  exact congrArg a (Fin.ext (hi))

omit h in
/-- The block they fill, read at an index. -/
theorem lines_apply (w : Fin 4 → IVec S64x1 32) (k : Fin 4 → IVec S64x32 32) (a : Fin 32 → BitVec 32) (b : Fin 4 → BitVec 32)
    (hw : ∀ j, w j (ix2 r 0) = b j) (hk : ∀ j l, k j (ix2 r l) = a l) (i : Fin 132) :
    View.canon (lines (F := Ideal) w k) (ix2 r i) = lineOf a b i := by
  have hc := lines_cover (F := Ideal) w k
  unfold lines at hc ⊢
  canon_tiles x hx using (hc _)
  all_goals
    idx_vars x
    obtain rfl : r = x0 := Fin.ext hx0
    first
    | exact (hk _ x1).trans (lineOf_token _ _ x1 _ (by change i.val = _ at hx1; omega)).symm
    | (obtain rfl : x1 = 0 := Subsingleton.elim _ _
       exact (hw _).trans (lineOf_word _ _ _ _ hx1).symm)

variable (V : (c : Dev nD) → (b : Ref sig .tc) → Buf (Elt Ideal) (c.tc.loc b)) (c : Dev nD) (t : Fin cfg1.N)

omit h in
/-- The fourth output's block: beam 0's tokens and the word of each of the first four. -/
theorem out6_apply (h : Ordered (iblk1 V c 0 t) (iblk1 V c 1 t) r n) (i : Fin 132) :
    (outsAt1 V c t).2.2.2 (ix2 r i) = lineOf (fun l => iblk1 V c 2 t (ix2 r ⟨l.val, by omega⟩))
      (fun j => BitVec.ofNat 32 (n ⟨j.val, by omega⟩)) i := by
  rw [out6_eq]
  have hw := fun j => (column_apply r (words (iblk1 V c 0 t) (iblk1 V c 1 t)) j).trans (words_apply h j)
  have ht := fun j => tokens_apply r (held (iblk1 V c 2 t)) (column (beams (iblk1 V c 0 t) (iblk1 V c 1 t)) j)
    ((column_apply r _ j).trans (beams_apply h j))
  exact lines_apply _ _ _ _ hw (fun j l => (ht j l).trans (held_apply r _ _)) i

end Cert.Proof.Merge

end
-- ==== Proof.Total.lean ====
/- Totals over any finite row of real scores: a score less the greatest one, less the logarithm of the sum of exponentials,
   plus the beam's score. They keep the order of the scores, and they lie between bounds. -/
module

public import Idealize.ShloMosaic.PureOps.Ideal

@[expose] public section

noncomputable section

namespace Cert.Proof

open Idealize.ShloMosaic

variable {ι : Type} [Fintype ι]

/-- A sum of reals, taken over the extended reals. -/
theorem coe_sum (f : ι → ℝ) : ((∑ q, f q : ℝ) : EReal) = ∑ q, (f q : EReal) := by
  classical
  induction (Finset.univ : Finset ι) using Finset.induction_on with
  | empty => simp
  | insert a s ha ih => rw [Finset.sum_insert ha, Finset.sum_insert ha, EReal.coe_add, ih]

/-- The total of one entry. -/
def total (y : ι → EReal) (b : EReal) (p : ι) : EReal := y p - (⨆ q, y q) - Ideal.log (∑ q, Ideal.exp (y q - ⨆ q, y q)) + b

/-- The row's scores are real and no greater in size than `C`. -/
def Within (C : ℝ) (y : ι → EReal) : Prop := ∀ q, ∃ f : ℝ, y q = (f : EReal) ∧ -C ≤ f ∧ f ≤ C

/-- A row of reals less one number, that is at least zero and at most the bounds allow. -/
theorem total_shift [Nonempty ι] {C : ℝ} {y : ι → EReal} (hy : Within C y) :
    ∃ (f : ι → ℝ) (s : ℝ), (∀ q, y q = (f q : EReal)) ∧ (∀ q, f q ≤ s) ∧ (∀ q, s ≤ f q + 2 * C + Fintype.card ι) ∧
      ∀ b p, total y b p = ((f p - s : ℝ) : EReal) + b := by
  choose f hf hlo hhi using hy
  obtain ⟨a, ha⟩ := Finite.exists_max f
  have hsup : ⨆ q, y q = (f a : EReal) := by
    apply le_antisymm
    · exact iSup_le fun q => by rw [hf]; exact_mod_cast ha q
    · rw [← hf a]; exact le_iSup y a
  have hsum : ∑ q, Ideal.exp (y q - ⨆ q, y q) = ((∑ q, Real.exp (f q - f a) : ℝ) : EReal) := by
    rw [hsup, coe_sum]
    refine Finset.sum_congr rfl fun q _ => ?_
    rw [hf, ← EReal.coe_sub, Ideal.exp_coe]
  have h1 : 1 ≤ ∑ q, Real.exp (f q - f a) := by
    have := Finset.single_le_sum (f := fun q => Real.exp (f q - f a)) (fun q _ => (Real.exp_pos _).le) (Finset.mem_univ a)
    simpa using this
  have hc : ∑ q, Real.exp (f q - f a) ≤ Fintype.card ι := by
    have := Finset.sum_le_card_nsmul Finset.univ (fun q => Real.exp (f q - f a)) 1
      fun q _ => Real.exp_le_one_iff.mpr (sub_nonpos.mpr (ha q))
    simpa using this
  have hlog : Ideal.log (∑ q, Ideal.exp (y q - ⨆ q, y q)) = ((Real.log (∑ q, Real.exp (f q - f a)) : ℝ) : EReal) := by
    rw [hsum, Ideal.log_coe, if_neg (by linarith)]
  have hl0 := Real.log_nonneg h1
  have hl1 := (Real.log_le_sub_one_of_pos (by linarith : 0 < ∑ q, Real.exp (f q - f a))).trans (by linarith : _ ≤ (Fintype.card ι : ℝ))
  refine ⟨f, f a + Real.log (∑ q, Real.exp (f q - f a)), hf, fun q => by linarith [ha q],
    fun q => by linarith [hlo q, hhi a], fun b p => ?_⟩
  unfold total
  rw [hlog, hsup, hf, ← EReal.coe_sub, ← EReal.coe_sub]
  congr 2
  ring

/-- Totals keep the order of the scores, where the beam's score is real. -/
theorem total_lt_iff [Nonempty ι] {C : ℝ} {y : ι → EReal} (hy : Within C y) (b : ℝ) (p q : ι) :
    total y b p < total y b q ↔ y p < y q := by
  obtain ⟨f, s, hf, -, -, h⟩ := total_shift hy
  rw [h, h, hf, hf, ← EReal.coe_add, ← EReal.coe_add, EReal.coe_lt_coe_iff, EReal.coe_lt_coe_iff]
  constructor <;> intro <;> linarith

/-- A total is at most the beam's score. -/
theorem total_le [Nonempty ι] {C : ℝ} {y : ι → EReal} (hy : Within C y) (b : EReal) (p : ι) : total y b p ≤ b := by
  obtain ⟨f, s, -, hs, -, h⟩ := total_shift hy
  rw [h]
  have : ((f p - s : ℝ) : EReal) ≤ 0 := by exact_mod_cast sub_nonpos.mpr (hs p)
  simpa using add_le_add_left this b

/-- And not far below it. -/
theorem le_total [Nonempty ι] {C : ℝ} {y : ι → EReal} (hy : Within C y) (b : ℝ) (p : ι) :
    ((b - 2 * C - Fintype.card ι : ℝ) : EReal) ≤ total y b p := by
  obtain ⟨f, s, -, -, hs, h⟩ := total_shift hy
  rw [h, ← EReal.coe_add, EReal.coe_le_coe_iff]
  linarith [hs p]

/-- Totals of the same row under another indexing. -/
theorem total_equiv {κ : Type} [Fintype κ] (e : κ ≃ ι) (y : ι → EReal) (b : EReal) (p : κ) :
    total (fun k => y (e k)) b p = total y b (e p) := by
  unfold total
  rw [Equiv.iSup_comp e (g := y), Equiv.sum_comp e fun q => Ideal.exp (y q - ⨆ q, y q)]

end Cert.Proof

end
-- ==== Proof.KernelMerge.lean ====
/- What the kernel program's four results hold, for rows of scores within bounds. -/
module

public import proofs.«01_k».proof.Proof.KernelScan
public import proofs.«01_k».proof.Proof.MergeRow
public import proofs.«01_k».proof.Proof.Total

@[expose] public section

set_option maxRecDepth 16384

noncomputable section

namespace Cert.Proof.Merge

open Cert.KernelIdeal Cert.KernelIdeal.Gen Idealize.ShloMosaic Idealize.ShloMosaic.TcCoe Cert.Proof.Rank Cert.Proof.Scan

/-- What is asked of the arguments, as far as the kernel reads them: scores of size at most 400000000, and real beam
    scores. -/
structure Sound (x : FVec Ideal S256x100000 .f32) (bs : FVec Ideal S256 .f32) : Prop where
  within : ∀ b, Within 400000000 (beam0 x b)
  real : ∀ b : Fin 64, ∃ r : ℝ, bs (ix1 ⟨b.val * 4, by omega⟩) = (r : EReal)

/-- Batch row `b`'s `j`-th position, of beam 0. -/
def word (x : FVec Ideal S256x100000 .f32) (b : Fin 64) (j : ℕ) : ℕ := place (nth (beam0 x b) key j)

/-- Batch row `b`'s `j`-th total. -/
def value (x : FVec Ideal S256x100000 .f32) (bs : FVec Ideal S256 .f32) (b : Fin 64) (j : ℕ) : EReal :=
  total (beam0 x b) (bs (ix1 ⟨b.val * 4, by omega⟩)) (nth (beam0 x b) key j)

section maths
variable {x : FVec Ideal S256x100000 .f32} {bs : FVec Ideal S256 .f32} (h : Sound x bs)
include h

/-- No score is minus infinity. -/
theorem beam0_pos (b : Fin 64) (q : Fin 200 × Fin 500) : ⊥ < beam0 x b q := by
  obtain ⟨f, hf, -⟩ := h.within b q
  rw [hf]
  exact EReal.bot_lt_coe f

/-- No total is minus infinity. -/
theorem value_pos (b : Fin 64) (j : ℕ) : ⊥ < value x bs b j := by
  obtain ⟨r, hr⟩ := h.real b
  unfold value
  rw [hr]
  exact (EReal.bot_lt_coe _).trans_le (le_total (h.within b) r _)

/-- The `j`-th score has `j` scores ahead of it. -/
theorem ahead_word (b : Fin 64) {j : ℕ} (hj : j < 8) : ahead (beam0 x b) key (nth (beam0 x b) key j) = j :=
  ahead_nth chunkKeys.key_inj (by rw [Fintype.card_prod, Fintype.card_fin, Fintype.card_fin]; omega)

/-- Different ranks have different positions. -/
theorem word_inj (b : Fin 64) {i j : ℕ} (hi : i < 8) (hj : j < 8) (e : word x b i = word x b j) : i = j := by
  rw [← ahead_word h b hi, ← ahead_word h b hj]
  exact congrArg _ (place_injective e)

/-- The totals come in order. -/
theorem value_before (b : Fin 64) {i j : ℕ} (hj : j < 8) (hij : i < j) :
    value x bs b j < value x bs b i ∨ (value x bs b i = value x bs b j ∧ word x b i < word x b j) := by
  obtain ⟨r, hr⟩ := h.real b
  have hb : Before (beam0 x b) key (nth (beam0 x b) key i) (nth (beam0 x b) key j) := by
    rw [before_iff_ahead_lt chunkKeys.key_inj, ahead_word h b (hij.trans hj), ahead_word h b hj]
    exact hij
  unfold value word
  rw [hr]
  exact (before_congr (v := beam0 x b) (key := key) (v' := total (beam0 x b) r) (key' := place)
    (fun p q => total_lt_iff (h.within b) r p q) (fun _ _ => key_lt_iff.symm) _ _).mpr hb

end maths

variable (m : (ℓ : Loc nD τ sig) → Buf (Elt Ideal) ℓ) (ρ : Dev nD → PrngReg) (c : Dev nD)

/-- Window 0 of the merge is its whole array. -/
theorem idx0 : ∀ t : Fin cfg1.N, win1_0.index t = ![0, 0] := by decide +kernel
/-- Window 1 of the merge is its whole array. -/
theorem idx1 : ∀ t : Fin cfg1.N, win1_1.index t = ![0, 0] := by decide +kernel
/-- Window 2 of the merge is its whole array. -/
theorem idx2 : ∀ t : Fin cfg1.N, win1_2.index t = ![0, 0] := by decide +kernel
/-- Window 3 of the merge is its whole array. -/
theorem idx3 : ∀ t : Fin cfg1.N, win1_3.index t = ![0, 0] := by decide +kernel
/-- Window 4 of the merge is its whole array. -/
theorem idx4 : ∀ t : Fin cfg1.N, win1_4.index t = ![0, 0] := by decide +kernel
/-- Window 5 of the merge is its whole array. -/
theorem idx5 : ∀ t : Fin cfg1.N, win1_5.index t = ![0, 0] := by decide +kernel
/-- Window 6 of the merge is its whole array. -/
theorem idx6 : ∀ t : Fin cfg1.N, win1_6.index t = ![0, 0] := by decide +kernel

/-- The merge's first block is the candidates' array. -/
theorem cand_block (t : Fin cfg1.N) (b : Fin 64) (j : Fin 8) :
    iblk1 (V3 m ρ) c 0 t (ix2 b j) = (W3 m ρ c (Proc.devRef .tc main_v5) : FVec Ideal S64x8 .f32) (ix2 b j) := by
  blk_ext [iblk1, idx0]

/-- Its second block is the positions' array. -/
theorem posn_block (t : Fin cfg1.N) (b : Fin 64) (j : Fin 8) :
    iblk1 (V3 m ρ) c 1 t (ix2 b j) = (W3 m ρ c (Proc.devRef .tc main_v6) : IVec S64x8 32) (ix2 b j) := by
  blk_ext [iblk1, idx1]

/-- Its third block is the tokens' array. -/
theorem tok_block (t : Fin cfg1.N) (b : Fin 64) (l : Fin 128) :
    iblk1 (V3 m ρ) c 2 t (ix2 b l) = (W3 m ρ c (Proc.devRef .tc main_v7) : IVec S64x128 32) (ix2 b l) := by
  blk_ext [iblk1, idx2]

/-- The first `n` totals of every sentence. -/
def totals (n : Nat) (x : FVec Ideal S256x100000 .f32) (bs : FVec Ideal S256 .f32) (b : Fin 64) (j : Fin n) : EReal :=
  value x bs b j

/-- The eight totals, as an array. -/
def totals8 (x : FVec Ideal S256x100000 .f32) (bs : FVec Ideal S256 .f32) : FVec Ideal S64x8 .f32 :=
  fun i => totals 8 x bs (i 0) (i 1)

/-- The first four totals, as an array. -/
def totals4 (x : FVec Ideal S256x100000 .f32) (bs : FVec Ideal S256 .f32) : FVec Ideal S64x4 .f32 :=
  fun i => totals 4 x bs (i 0) (i 1)

/-- The eight positions, as an array. -/
def words8 (x : FVec Ideal S256x100000 .f32) : IVec S64x8 32 :=
  fun i => BitVec.ofNat 32 (word x (i 0) (show Fin 8 from i 1).val)

/-- Beam 0's tokens before each of the first four words, as an array. -/
def lines4 (x : FVec Ideal S256x100000 .f32) (y : IVec S256x32 32) : IVec S64x132 32 :=
  fun i => lineOf (fun l => y (ix2 (⟨(show Fin 64 from i 0).val * 4, by have := (show Fin 64 from i 0).isLt; omega⟩ : Fin 256) l))
    (fun j => BitVec.ofNat 32 (word x (i 0) j)) (i 1)

section results
variable (h : Sound (m ((c.tc : Thread nD τ).loc main_arg0)) (m ((c.tc : Thread nD τ).loc main_arg1)))
include h

/-- The merge kernel's candidates come in order. -/
theorem ordered (t : Fin cfg1.N) (b : Fin 64) :
    Ordered (iblk1 (V3 m ρ) c 0 t) (iblk1 (V3 m ρ) c 1 t) b fun j => word (m ((c.tc : Thread nD τ).loc main_arg0)) b j := by
  have hv : ∀ j : Fin 8, iblk1 (V3 m ρ) c 0 t (ix2 b j)
      = value (m ((c.tc : Thread nD τ).loc main_arg0)) (m ((c.tc : Thread nD τ).loc main_arg1)) b j := fun j =>
    (cand_block m ρ c t b j).trans (W3_v5 m ρ c (beam0_pos h) b j)
  refine ⟨fun j => (posn_block m ρ c t b j).trans (W3_v6 m ρ c (beam0_pos h) b j), fun j => place_lt _,
    fun i j e => Fin.ext (word_inj h b i.isLt j.isLt e), fun j => ?_, fun i j hij => ?_⟩
  · rw [hv]; exact value_pos h b j
  · unfold Before
    dsimp only
    rw [hv, hv]
    refine (value_before h b j.isLt hij).imp id (And.imp id fun k => ?_)
    rw [EReal.coe_lt_coe_iff]
    exact_mod_cast k

/-- The merge's first result: the totals. -/
theorem W4_0 : (W4 m ρ c (Proc.devRef .tc main_v8_0) : FVec Ideal S64x8 .f32)
    = totals8 (m ((c.tc : Thread nD τ).loc main_arg0)) (m ((c.tc : Thread nD τ).loc main_arg1)) := by
  refine (W4_arr m ρ c 3).trans ?_
  refine (dat1 (V3 m ρ) c).arrAt_eq_of_covers 3 _ (by decide +kernel) fun t hf y => ?_
  blk_simp
  rw [after1_3, out3_eq]
  idx_vars y
  rw [show ((View.whole main_v8_0).slice (win1_3.rect t)).emb (ix2 y0 y1) = ix2 y0 y1 by blk_ext [idx3]]
  exact (values_apply (ordered m ρ c h t y0) y1).trans
    ((cand_block m ρ c t y0 y1).trans (W3_v5 m ρ c (beam0_pos h) y0 y1))

/-- The second: their positions. -/
theorem W4_1 : (W4 m ρ c (Proc.devRef .tc main_v8_1) : IVec S64x8 32)
    = words8 (m ((c.tc : Thread nD τ).loc main_arg0)) := by
  refine (W4_arr m ρ c 4).trans ?_
  refine (dat1 (V3 m ρ) c).arrAt_eq_of_covers 4 _ (by decide +kernel) fun t hf y => ?_
  blk_simp
  rw [after1_4, out4_eq]
  idx_vars y
  rw [show ((View.whole main_v8_1).slice (win1_4.rect t)).emb (ix2 y0 y1) = ix2 y0 y1 by blk_ext [idx4]]
  exact spots_apply (ordered m ρ c h t y0) y1

/-- The third: the first four totals. -/
theorem W4_2 : (W4 m ρ c (Proc.devRef .tc main_v8_2) : FVec Ideal S64x4 .f32)
    = totals4 (m ((c.tc : Thread nD τ).loc main_arg0)) (m ((c.tc : Thread nD τ).loc main_arg1)) := by
  refine (W4_arr m ρ c 5).trans ?_
  refine (dat1 (V3 m ρ) c).arrAt_eq_of_covers 5 _ (by decide +kernel) fun t hf y => ?_
  blk_simp
  rw [after1_5, out5_eq]
  idx_vars y
  rw [show ((View.whole main_v8_2).slice (win1_5.rect t)).emb (ix2 y0 y1) = ix2 y0 y1 by blk_ext [idx5]]
  exact (four_apply y0 _ y1).trans ((values_apply (ordered m ρ c h t y0) _).trans
    ((cand_block m ρ c t y0 _).trans (W3_v5 m ρ c (beam0_pos h) y0 _)))

/-- The fourth: beam 0's tokens before each of the first four words. -/
theorem W4_3 : (W4 m ρ c (Proc.devRef .tc main_v8_3) : IVec S64x132 32)
    = lines4 (m ((c.tc : Thread nD τ).loc main_arg0)) (m ((c.tc : Thread nD τ).loc main_arg2)) := by
  refine (W4_arr m ρ c 6).trans ?_
  refine (dat1 (V3 m ρ) c).arrAt_eq_of_covers 6 _ (by decide +kernel) fun t hf y => ?_
  blk_simp
  rw [after1_6]
  idx_vars y
  rw [show ((View.whole main_v8_3).slice (win1_6.rect t)).emb (ix2 y0 y1) = ix2 y0 y1 by blk_ext [idx6]]
  refine (out6_apply (r := y0) _ c t (ordered m ρ c h t y0) y1).trans ?_
  exact congrArg (fun f => lineOf f _ y1) (funext fun l => (tok_block m ρ c t y0 _).trans
    ((congrArg (fun k : Fin 128 => (W3 m ρ c (Proc.devRef .tc main_v7) : IVec S64x128 32) (ix2 y0 k))
      (Fin.ext (by simp))).trans (W3_v7 m ρ c y0 0 l)))

end results

end Cert.Proof.Merge

end
-- ==== Proof.KernelOut.lean ====
/- What the kernel's program leaves in its four result arrays. The merge kernel's last two arrays are reshaped into the
   third and fourth results; the first two are results as they are. -/
module

public import proofs.«01_k».proof.Proof.KernelMerge

@[expose] public section

set_option maxRecDepth 16384

noncomputable section

namespace Cert.Proof.Merge

open Cert.KernelIdeal Cert.KernelIdeal.Gen Idealize.ShloMosaic Idealize.ShloMosaic.TcCoe Cert.Proof.Rank Cert.Proof.Scan

variable (m : (ℓ : Loc nD τ sig) → Buf (Elt Ideal) ℓ) (ρ : Dev nD → PrngReg) (c : Dev nD)
variable (h : Sound (m ((c.tc : Thread nD τ).loc main_arg0)) (m ((c.tc : Thread nD τ).loc main_arg1)))
include h

/-- The first result is the eight best totals of every sentence. -/
theorem W5_0 : (W5 m ρ c (Proc.devRef .tc main_v8_0) : FVec Ideal S64x8 .f32)
    = totals8 (m ((c.tc : Thread nD τ).loc main_arg0)) (m ((c.tc : Thread nD τ).loc main_arg1)) :=
  (W5_of m ρ c main_v8_0 (by decide)).trans (W4_0 m ρ c h)

/-- The second result is their positions. -/
theorem W5_1 : (W5 m ρ c (Proc.devRef .tc main_v8_1) : IVec S64x8 32)
    = words8 (m ((c.tc : Thread nD τ).loc main_arg0)) :=
  (W5_of m ρ c main_v8_1 (by decide)).trans (W4_1 m ρ c h)

/-- The third result holds the first four totals of sentence `b` at `4b … 4b+3`. -/
theorem W5_2 (i : Fin 256) : (W5 m ρ c (Proc.devRef .tc main_v9) : FVec Ideal S256 .f32) (ix1 i)
    = value (m ((c.tc : Thread nD τ).loc main_arg0)) (m ((c.tc : Thread nD τ).loc main_arg1)) ⟨i.val / 4, by omega⟩ (i.val % 4) := by
  have e := W4_2 m ρ c h
  unfold W5
  after_reads_at
  exact congrFun e _

/-- The fourth result's row `4b + j` is beam 0's tokens of sentence `b` and then its word `j`. -/
theorem W5_3 (i : Fin 256) (l : Fin 33) : (W5 m ρ c (Proc.devRef .tc main_v10) : IVec S256x33 32) (ix2 i l)
    = if hl : l.val < 32 then (m ((c.tc : Thread nD τ).loc main_arg2) : IVec S256x32 32) (ix2 ⟨i.val / 4 * 4, by omega⟩ ⟨l.val, hl⟩)
      else BitVec.ofNat 32 (word (m ((c.tc : Thread nD τ).loc main_arg0)) ⟨i.val / 4, by omega⟩ (i.val % 4)) := by
  have e := W4_3 m ρ c h
  unfold W5
  after_reads_at
  refine (congrFun e _).trans ?_
  have hk : (i.val % 4 * 33 + l.val) % 33 = l.val % 33 := by omega
  split
  · rename_i hl
    exact lineOf_token _ _ ⟨l.val, hl⟩ _ (hk.trans (Nat.mod_eq_of_lt l.isLt))
  · exact lineOf_word _ _ ⟨i.val % 4, by omega⟩ _ (by show i.val % 4 * 33 + l.val = _; dsimp only; omega)

end Cert.Proof.Merge
-- ==== Proof.RefTotals.lean ====
/- What the reference ranks: the total of every word of every beam, read at an index. -/
module

public import proofs.«01_k».proof.Proof.Gen.ReferenceIdeal
public import proofs.«01_k».proof.Proof.Literals
public import proofs.«01_k».proof.Proof.Total
public import Idealize.ShloMosaic.Lib.Pointwise

@[expose] public section

set_option maxRecDepth 16384

noncomputable section

namespace Cert.Proof.Ref

open Idealize.ShloMosaic Cert.ReferenceIdeal Cert.ReferenceIdeal.Gen

variable (x : FVec Ideal S256x100000 .f32) (bs : FVec Ideal S256 .f32)

/-- The greatest score of each row, as it is first found. -/
def found : FVec Ideal S256 .f32 :=
  Host.reduce FloatOps.maximumf x (constant S_ .f32 0xFF800000#32) reducesTo_S256x100000_S256_d1 h_S_

/-- The greatest score of each row. -/
def greatest : FVec Ideal S256 .f32 :=
  maximumf (broadcastInDim S256 ![] bcast_S_S256 (constant S_ .f32 0xFF800000#32)) (found x)

/-- One number of each row, for all of its entries. -/
def spread (y : FVec Ideal S256x1 .f32) : FVec Ideal S256x100000 .f32 :=
  broadcastInDim S256x100000 ![0, 1] bcast_S256x1_S256x100000_0_1 y

/-- A column of one number a row. -/
def column (y : FVec Ideal S256 .f32) : FVec Ideal S256x1 .f32 := broadcastInDim S256x1 ![0] bcast_S256_S256x1_0 y

/-- Every score less its row's greatest. -/
def lowered : FVec Ideal S256x100000 .f32 := subf x (spread (column (greatest x)))

/-- The sum of the exponentials of each row of the lowered scores. -/
def mass : FVec Ideal S256 .f32 :=
  Host.reduceAdd (Host.exp (lowered x)) (constant S_ .f32 0x00000000#32) reducesTo_S256x100000_S256_d1 h_S_

/-- The log-probability of every word, plus its beam's score. -/
def added : FVec Ideal S256x100000 .f32 :=
  addf (subf (lowered x) (spread (Host.log (column (mass x))))) (spread (column bs))

/-- The totals of one sentence's four beams, in one line. -/
def flat : FVec Ideal S64x400000 .f32 := shapeCast _ (added x bs) shapeCasts_S256x100000_S64x400000

/-- One row of scores. -/
def row (r : Fin 256) (v : Fin 100000) : EReal := x (ix2 r v)

/-- A row's number is read at all of its entries. -/
theorem spread_apply (y : FVec Ideal S256x1 .f32) (r : Fin 256) (v : Fin 100000) : spread y (ix2 r v) = y (ix2 r 0) := by
  pointwise [spread]

/-- The column's number is the row's. -/
theorem column_apply (y : FVec Ideal S256 .f32) (r : Fin 256) : column y (ix2 r 0) = y (ix1 r) := by
  pointwise [column]

/-- The greatest score first found is the supremum of the row. -/
theorem found_apply (r : Fin 256) : found x (ix1 r) = ⨆ v, row x r v := by
  pointwise [found]
  rw [ofBits_bot, fold_max]
  unfold row
  with_reducible rfl

/-! The elementwise operations, at any arrays. -/

/-- A maximum of arrays. -/
theorem max_at {s : Shape} (y z : FVec Ideal s .f32) (i : s.Idx) : maximumf y z i = max (y i) (z i) := rfl

/-- A difference of arrays. -/
theorem sub_at {s : Shape} (y z : FVec Ideal s .f32) (i : s.Idx) : subf y z i = y i - z i := rfl

/-- A sum of arrays. -/
theorem add_at {s : Shape} (y z : FVec Ideal s .f32) (i : s.Idx) : addf y z i = y i + z i := rfl

/-- An exponential of an array. -/
theorem exp_at {s : Shape} (y : FVec Ideal s .f32) (i : s.Idx) : Host.exp y i = Ideal.exp (y i) := rfl

/-- A logarithm of an array. -/
theorem log_at {s : Shape} (y : FVec Ideal s .f32) (i : s.Idx) : Host.log y i = Ideal.log (y i) := rfl

/-- The starting value of the maxima is minus infinity. -/
theorem least_at (r : Fin 256) :
    broadcastInDim S256 ![] bcast_S_S256 (constant (F := Ideal) S_ .f32 0xFF800000#32) (ix1 r) = ⊥ := by
  pointwise []
  exact ofBits_bot

/-- The greatest score of row `r` is the supremum of the row. -/
theorem greatest_apply (r : Fin 256) : greatest x (ix1 r) = ⨆ v, row x r v := by
  unfold greatest
  rw [max_at, found_apply, least_at]
  exact max_eq_right bot_le

/-- A lowered score is the score less the row's supremum. -/
theorem lowered_apply (r : Fin 256) (v : Fin 100000) : lowered x (ix2 r v) = row x r v - ⨆ v, row x r v := by
  unfold lowered
  rw [sub_at, spread_apply, column_apply, greatest_apply]
  unfold row
  with_reducible rfl

/-- The mass of row `r` is the sum of the exponentials. -/
theorem mass_apply (r : Fin 256) : mass x (ix1 r) = ∑ v, Ideal.exp (row x r v - ⨆ v, row x r v) := by
  pointwise [mass]
  simp only [exp_at, lowered_apply]

/-- The number ranked for word `v` of row `r` is the total of that word in the row. -/
theorem added_apply (r : Fin 256) (v : Fin 100000) : added x bs (ix2 r v) = total (row x r) (bs (ix1 r)) v := by
  unfold added total
  rw [add_at, sub_at, spread_apply, spread_apply, column_apply, log_at, column_apply, mass_apply, lowered_apply]

/-- Place `k · 100000 + v` of sentence `b`'s line holds the total of word `v` in its beam `k`. -/
theorem flat_apply (b : Fin 64) (p : Fin 400000) : flat x bs (ix2 b p)
    = total (row x ⟨b.val * 4 + p.val / 100000, by omega⟩) (bs (ix1 ⟨b.val * 4 + p.val / 100000, by omega⟩)) ⟨p.val % 100000, by omega⟩ := by
  rw [← added_apply]
  pointwise [flat]

end Cert.Proof.Ref
-- ==== Proof.Sorted.lean ====
/- The stable sort by greater values lists the entries in the order of `Rank`: greatest value first, equal values by the
   smaller position. -/
module

public import proofs.«01_k».proof.Proof.Rank
public import Idealize.ShloMosaic.Lib.SortFacts

@[expose] public section

noncomputable section

namespace Cert.Proof.Rank

open Idealize.ShloMosaic

variable {n : ℕ}

/-- Putting a position smaller than all others into a list in order keeps the list in order. -/
theorem pairwise_insert (x : Fin n → EReal) (R : Fin n → Fin n → Bool) (hR : ∀ a b, R a b = true ↔ x b < x a) (a : Fin n)
    (l : List (Fin n)) (hl : l.Pairwise (Before x id)) (ha : ∀ b ∈ l, a < b) :
    (insertBefore R a l).Pairwise (Before x id) := by
  induction l with
  | nil => exact List.pairwise_singleton _ _
  | cons b l ih =>
    rw [List.pairwise_cons] at hl
    unfold insertBefore
    split
    · rename_i h
      refine List.pairwise_cons.mpr ⟨fun c hc => ?_, ih hl.2 fun c hc => ha c (List.mem_cons_of_mem _ hc)⟩
      rcases List.mem_cons.mp ((perm_insertBefore R a l).mem_iff.mp hc) with rfl | hc'
      · exact .inl ((hR _ _).mp h)
      · exact hl.1 c hc'
    · rename_i h
      have hab : Before x id a b := by
        have hle : x b ≤ x a := not_lt.mp fun k => h ((hR _ _).mpr k)
        rcases hle.lt_or_eq with k | k
        · exact .inl k
        · exact .inr ⟨k.symm, ha b (List.mem_cons_self ..)⟩
      refine List.pairwise_cons.mpr ⟨fun c hc => ?_, List.pairwise_cons.mpr hl⟩
      rcases List.mem_cons.mp hc with rfl | hc'
      · exact hab
      · exact hab.trans (hl.1 c hc')

/-- The stable sort of an increasing list of positions is in order. -/
theorem pairwise_sorted (x : Fin n → EReal) (R : Fin n → Fin n → Bool) (hR : ∀ a b, R a b = true ↔ x b < x a)
    (l : List (Fin n)) (hl : l.Pairwise (· < ·)) : (stableSort R l).Pairwise (Before x id) := by
  induction l with
  | nil => exact List.Pairwise.nil
  | cons a l ih =>
    rw [List.pairwise_cons] at hl
    unfold stableSort
    refine pairwise_insert x R hR a _ (ih hl.2) fun b hb => hl.1 b ?_
    exact (perm_stableSort R l).mem_iff.mp hb

/-- Earlier places of the sort hold earlier entries. -/
theorem before_sortedFrom (x : Fin n → EReal) (R : Fin n → Fin n → Bool) (hR : ∀ a b, R a b = true ↔ x b < x a)
    (i j : Fin n) (hij : i < j) : Before x id (sortedFrom R i) (sortedFrom R j) := by
  have hp : ∀ a b : Fin (sortPositions n R).length, a < b →
      Before x id ((sortPositions n R).get a) ((sortPositions n R).get b) :=
    List.pairwise_iff_get.mp (pairwise_sorted x R hR (List.finRange n) (List.pairwise_lt_finRange n))
  unfold sortedFrom
  exact hp _ _ (by simp only [Fin.lt_def, Fin.val_cast]; exact hij)

/-- Place `j` of the sort holds the entry with `j` entries before it. -/
theorem ahead_sortedFrom (x : Fin n → EReal) (R : Fin n → Fin n → Bool) (hR : ∀ a b, R a b = true ↔ x b < x a) (j : Fin n) :
    ahead x id (sortedFrom R j) = j := by
  classical
  have hiff : ∀ i, Before x id (sortedFrom R i) (sortedFrom R j) ↔ i < j := fun i => by
    refine ⟨fun h => ?_, before_sortedFrom x R hR i j⟩
    rcases lt_trichotomy i j with k | rfl | k
    · exact k
    · exact absurd h (Before.irrefl _)
    · exact absurd (h.trans (before_sortedFrom x R hR j i k)) (Before.irrefl _)
  unfold ahead
  have : (Finset.univ.filter fun i => Before x id i (sortedFrom R j)) = (Finset.univ.filter (· < j)).image (sortedFrom R) := by
    ext i
    simp only [Finset.mem_filter, Finset.mem_univ, true_and, Finset.mem_image]
    constructor
    · intro h
      obtain ⟨i', rfl⟩ := sortedFrom_surjective R i
      exact ⟨i', (hiff i').mp h, rfl⟩
    · rintro ⟨i', h, rfl⟩
      exact (hiff i').mpr h
  rw [this, Finset.card_image_of_injective _ (sortedFrom_injective R)]
  have : (Finset.univ.filter (· < j)) = Finset.Iio j := by ext; simp
  rw [this, Fin.card_Iio]

end Cert.Proof.Rank

end
-- ==== Proof.TopK.lean ====
/- The greatest entries of each row of a rectangle, as the sorting operation lists them, read at an index. -/
module

public import proofs.«01_k».proof.Proof.Sorted
public import Idealize.ShloMosaic.Lib.ValueIdxCore
public import Idealize.ShloMosaic.Lib.StableHlo.Predicate
public import Idealize.ShloMosaic.PureOps.Ideal.Laws

@[expose] public section

noncomputable section

namespace Cert.Proof.TopK

open Idealize.ShloMosaic Idealize.ShloMosaic.ValueIdx Cert.Proof.Rank

variable {m n k : ℕ}

/-- A rectangle's index with its second coordinate replaced. -/
theorem along_second (b : Fin m) (j p : Fin n) :
    Shape.Idx.along (s := ⟨2, ![m, n]⟩) (ix2 b j) 1 p = ix2 b p := by
  funext a
  match a with
  | ⟨0, _⟩ => rfl
  | ⟨1, _⟩ => exact Function.update_self ..

/-- Row `b`'s order: the position, in the operand, of its `j`-th greatest entry. -/
def order (y : FVec Ideal ⟨2, ![m, n]⟩ .f32) (b : Fin m) (j : Fin n) : Fin n :=
  sortedFrom (fun p q => FloatOps.cmpfTotal .gt (y (ix2 b p)) (y (ix2 b q)) == 1#1) j

/-- As many entries are ahead of the `j`-th greatest as `j` says. -/
theorem ahead_order (y : FVec Ideal ⟨2, ![m, n]⟩ .f32) (b : Fin m) (j : Fin n) :
    ahead (fun p => (y (ix2 b p) : EReal)) id (order y b j) = j := by
  refine ahead_sortedFrom _ _ (fun p q => ?_) j
  rw [Ideal.cmpfTotal_def]
  simp only [Ideal.cmp, CmpDirection.ordered, beq_iff_eq]
  exact (StableHlo.Predicate.ofBool_eq_one_iff _).trans (decide_eq_true_iff)

/-- The part of a rectangle of its first `k` columns. -/
theorem slice_at {α : Type} (z : (⟨2, ![m, n]⟩ : Shape).Idx → α) (h : (⟨2, ![m, n]⟩ : Shape).Slices (fun _ => 0) ⟨2, ![m, k]⟩)
    (hk : k ≤ n) (b : Fin m) (j : Fin k) :
    extractStridedSlice ⟨2, ![m, k]⟩ (fun _ => 0) z h (ix2 b j) = z (ix2 b ⟨j, j.isLt.trans_le hk⟩) := by
  refine congrArg z (funext fun a => Fin.ext ?_)
  match a with
  | ⟨0, _⟩ => exact Nat.zero_add _
  | ⟨1, _⟩ => exact Nat.zero_add _

/-- Both operands of the sort, sorted along each row. -/
theorem sort_at {β : Type} (y : FVec Ideal ⟨2, ![m, n]⟩ .f32) (z : (⟨2, ![m, n]⟩ : Shape).Idx → β) (b : Fin m) (j : Fin n) :
    (Host.sort2 ⟨2, ![m, n]⟩ 1 (fun l r => FloatOps.cmpfTotal .gt l.1 r.1) y z).1 (ix2 b j) = y (ix2 b (order y b j))
    ∧ (Host.sort2 ⟨2, ![m, n]⟩ 1 (fun l r => FloatOps.cmpfTotal .gt l.1 r.1) y z).2 (ix2 b j) = z (ix2 b (order y b j)) := by
  have e : sortedFrom (fun p q : Fin n => FloatOps.cmpfTotal (F := Ideal) (φ := .f32) .gt
        (y (Shape.Idx.along (s := ⟨2, ![m, n]⟩) (ix2 b j) 1 p)) (y (Shape.Idx.along (s := ⟨2, ![m, n]⟩) (ix2 b j) 1 q)) == 1#1) j
      = order y b j := by
    unfold order
    simp only [along_second]
  unfold Host.sort2
  rw [dif_pos (show 1 < (⟨2, ![m, n]⟩ : Shape).rank from Nat.one_lt_two)]
  constructor
  · refine congrArg y ((along_second b j _).trans (congrArg (ix2 b) e))
  · refine congrArg z ((along_second b j _).trans (congrArg (ix2 b) e))

/-- Every entry's own column, as the word the sort carries along. -/
def numbers (m n : ℕ) : IVec ⟨2, ![m, n]⟩ 32 := fun i =>
  if hd : 1 < (⟨2, ![m, n]⟩ : Shape).rank then iotaInDim ⟨2, ![m, n]⟩ 32 ⟨1, hd⟩ i else 0#32

/-- It is the word of the column number. -/
theorem numbers_at (b : Fin m) (p : Fin n) : numbers m n (ix2 b p) = BitVec.ofNat 32 p.val :=
  dif_pos (show 1 < (⟨2, ![m, n]⟩ : Shape).rank from Nat.one_lt_two)

section read
variable (y : FVec Ideal ⟨2, ![m, n]⟩ .f32) (h : (⟨2, ![m, n]⟩ : Shape).Slices (fun _ => 0) ⟨2, ![m, k]⟩)
  (hk : k ≤ n) (b : Fin m) (j : Fin k)

/-- The values listed. -/
theorem values_at : (Host.topK ⟨2, ![m, k]⟩ 1 (FloatOps.cmpfTotal .gt) y h).1 (ix2 b j)
    = y (ix2 b (order y b ⟨j, j.isLt.trans_le hk⟩)) :=
  (slice_at _ h hk b j).trans (sort_at y (numbers m n) b _).1

/-- Their positions. -/
theorem positions_at : (Host.topK ⟨2, ![m, k]⟩ 1 (FloatOps.cmpfTotal .gt) y h).2 (ix2 b j)
    = BitVec.ofNat 32 (order y b ⟨j, j.isLt.trans_le hk⟩).val :=
  (slice_at _ h hk b j).trans ((sort_at y (numbers m n) b _).2.trans (numbers_at b _))

end read

end Cert.Proof.TopK
-- ==== Proof.RefRank.lean ====
/- The eight greatest totals of a sentence are its beam 0's, in the order of beam 0's scores, when every other beam's score
   is far enough below. -/
module

public import proofs.«01_k».proof.Proof.RefTotals
public import proofs.«01_k».proof.Proof.TopK
public import proofs.«01_k».proof.Proof.KernelMerge

@[expose] public section

set_option maxRecDepth 16384

noncomputable section

namespace Cert.Proof.Ref

open Idealize.ShloMosaic Cert.ReferenceIdeal Cert.ReferenceIdeal.Gen Cert.Proof.Rank Cert.Proof.Scan

/-- What is asked of the arguments: scores of size at most 400000000, a real score of every sentence's beam 0, and the
    scores of its other beams below by 1000000000 or more. -/
structure Drawn (x : FVec Ideal S256x100000 .f32) (bs : FVec Ideal S256 .f32) : Prop where
  within : ∀ r, Within 400000000 (row x r)
  real : ∀ b : Fin 64, ∃ s : ℝ, bs (ix1 ⟨b.val * 4, by omega⟩) = (s : EReal)
  below : ∀ (b : Fin 64) (k : Fin 4), 0 < k.val →
    bs (ix1 ⟨b.val * 4 + k.val, by omega⟩) + ((1000000000 : ℝ) : EReal) ≤ bs (ix1 ⟨b.val * 4, by omega⟩)

/-- The word at a place of the kernel's arrangement of a row. -/
def vocab (q : Fin 200 × Fin 500) : Fin 100000 := ⟨place q, place_lt q⟩

/-- Every word is at exactly one place. -/
theorem vocab_bijective : Function.Bijective vocab :=
  (Fintype.bijective_iff_injective_and_card _).mpr ⟨fun _ _ e => place_injective (Fin.mk.inj_iff.mp e), by simp⟩

/-- The same word's place in its sentence's line, in beam 0. -/
def spot (q : Fin 200 × Fin 500) : Fin 400000 := ⟨place q, (place_lt q).trans (by omega)⟩

variable {x : FVec Ideal S256x100000 .f32} {bs : FVec Ideal S256 .f32} (h : Drawn x bs)
include h

/-- The kernel's needs are among these. -/
theorem Drawn.sound : Merge.Sound x bs := ⟨fun b q => h.within ⟨b.val * 4, by omega⟩ (vocab q), h.real⟩

omit h in
/-- The line's number at a place of beam 0. -/
theorem flat_spot (b : Fin 64) (q : Fin 200 × Fin 500) :
    flat x bs (ix2 b (spot q)) = total (beam0 x b) (bs (ix1 ⟨b.val * 4, by omega⟩)) q := by
  have hd : place q / 100000 = 0 := Nat.div_eq_of_lt (place_lt q)
  have hm : place q % 100000 = place q := Nat.mod_eq_of_lt (place_lt q)
  have hr : (⟨b.val * 4 + (spot q).val / 100000, by have := (spot q).isLt; omega⟩ : Fin 256) = ⟨b.val * 4, by omega⟩ :=
    Fin.ext (by show b.val * 4 + place q / 100000 = b.val * 4; omega)
  have hv : (⟨(spot q).val % 100000, by omega⟩ : Fin 100000) = vocab q := Fin.ext hm
  rw [flat_apply, hr, hv]
  exact (total_equiv (Equiv.ofBijective vocab vocab_bijective) (row x ⟨b.val * 4, by omega⟩) _ q).symm

/-- Every number of another beam is below all of beam 0's. -/
theorem flat_below (b : Fin 64) (p : Fin 400000) (hp : 100000 ≤ p.val) (q : Fin 200 × Fin 500) :
    flat x bs (ix2 b p) < flat x bs (ix2 b (spot q)) := by
  obtain ⟨s, hs⟩ := h.real b
  have hb := h.below b ⟨p.val / 100000, by omega⟩ (by show 0 < p.val / 100000; omega)
  have h1 := total_le (h.within ⟨b.val * 4 + p.val / 100000, by omega⟩) (bs (ix1 ⟨b.val * 4 + p.val / 100000, by omega⟩))
    ⟨p.val % 100000, by omega⟩
  have h2 := le_total (h.sound.within b) s q
  rw [flat_spot, flat_apply, hs]
  refine (h1.trans ?_).trans_lt (lt_of_lt_of_le ?_ h2) (b := ((s - 1000000000 : ℝ) : EReal))
  · rw [hs] at hb
    rw [EReal.coe_sub]
    exact EReal.le_sub_iff_add_le (.inl (EReal.coe_ne_bot _)) (.inl (EReal.coe_ne_top _)) |>.mpr hb
  · rw [EReal.coe_lt_coe_iff, Fintype.card_prod, Fintype.card_fin, Fintype.card_fin]
    norm_num
    linarith

/-- A place of beam 0 has as many numbers ahead of it in the line as its score has in beam 0. -/
theorem ahead_spot (b : Fin 64) (q : Fin 200 × Fin 500) :
    ahead (fun p => (flat x bs (ix2 b p) : EReal)) id (spot q) = ahead (beam0 x b) key q := by
  obtain ⟨s, hs⟩ := h.real b
  refine ahead_embed spot (fun _ _ e => place_injective (Fin.mk.inj_iff.mp e)) (fun p p' => ?_) q (fun i hi => ?_)
  · refine before_congr (v' := fun p => (flat x bs (ix2 b (spot p)) : EReal)) (key' := spot) (fun a c => ?_) (fun a c => ?_) p p'
    · rw [flat_spot, flat_spot, hs]
      exact total_lt_iff (h.sound.within b) s a c
    · exact Fin.mk_lt_mk.trans key_lt_iff.symm
  · have hlt : i.val < 100000 := by
      by_contra hge
      exact absurd (Before.le hi) (not_le.mpr (flat_below h b i (by omega) q))
    obtain ⟨q', hq'⟩ := vocab_bijective.2 ⟨i.val, hlt⟩
    exact ⟨q', Fin.ext (Fin.mk.inj_iff.mp hq')⟩

/-- The line's `j`-th greatest number is at the place of beam 0's `j`-th greatest score. -/
theorem order_flat (b : Fin 64) (j : Fin 400000) (hj : j.val < 8) :
    TopK.order (flat x bs) b j = spot (nth (beam0 x b) key j.val) := by
  refine ahead_injective (v := fun p => (flat x bs (ix2 b p) : EReal)) Function.injective_id ?_
  exact (TopK.ahead_order (flat x bs) b j).trans ((ahead_spot h b _).trans (Merge.ahead_word h.sound b hj)).symm

/-- The reference's list of the eight greatest. -/
def top (x : FVec Ideal S256x100000 .f32) (bs : FVec Ideal S256 .f32) : FVec Ideal S64x8 .f32 × IVec S64x8 32 :=
  Host.topK S64x8 1 (FloatOps.cmpfTotal .gt) (flat x bs) sliceFits_S64x400000_S64x8

/-- Its values. -/
theorem top_value (b : Fin 64) (j : Fin 8) : (top x bs).1 (ix2 b j) = Merge.value x bs b j.val :=
  (TopK.values_at (flat x bs) sliceFits_S64x400000_S64x8 (by omega) b j).trans
    ((congrArg (fun p => flat x bs (ix2 b p)) (order_flat h b _ j.isLt)).trans (flat_spot b _))

/-- Its positions. -/
theorem top_word (b : Fin 64) (j : Fin 8) : (top x bs).2 (ix2 b j) = BitVec.ofNat 32 (Merge.word x b j.val) :=
  (TopK.positions_at (flat x bs) sliceFits_S64x400000_S64x8 (by omega) b j).trans
    (congrArg (fun p : Fin 400000 => BitVec.ofNat 32 p.val) (order_flat h b _ j.isLt))

end Cert.Proof.Ref
-- ==== Proof.RefWords.lean ====
/- What the reference makes of the eight positions: the beam each is in and the word it names, by integer arithmetic; the
   source row of tokens; and its last two results. -/
module

public import proofs.«01_k».proof.Proof.RefRank
public import Idealize.ShloMosaic.Lib.Routing.Words
public import Idealize.ShloMosaic.Lib.Routing.Ops
public import Idealize.ShloMosaic.Lib.ReduceAll
public import Idealize.ShloMosaic.Lib.Affine

@[expose] public section

set_option maxRecDepth 16384

noncomputable section

namespace Cert.Proof.Ref

open Idealize.ShloMosaic Cert.ReferenceIdeal Cert.ReferenceIdeal.Gen Cert.Proof.Rank Cert.Proof.Scan

/-- The number of words of a beam. -/
def size : IVec S_ 32 := id (constantI S_ 32 100000#32)

/-- The beam of every position. -/
def beams (p : IVec S64x8 32) : IVec S64x8 32 := Routing.pyDiv bcast_S_S64x8 p size

/-- The word of every position. -/
def terms (p : IVec S64x8 32) : IVec S64x8 32 := Routing.pyRem bcast_S_S64x8 p size

/-- The first row of tokens of each sentence. -/
def starts : IVec S64x4 32 := broadcastInDim S64x4 ![0, 1] bcast_S64x1_S64x4_0_1
  (muli (broadcastInDim S64x1 ![0] bcast_S64_S64x1_0 (iotaInDim S64 32 0)) (broadcastInDim S64x1 ![] bcast_S_S64x1 (constantI S_ 32 4#32)))

/-- The row of tokens each of the first four of a sentence continues. -/
def sources (d : IVec S64x8 32) : IVec S256 32 :=
  shapeCast _ (addi starts (extractStridedSlice S64x4 ![0, 0] d slices_S64x8_S64x4_0_0)) shapeCasts_S64x4_S256

/-- The row, counted from the end where it is negative. -/
def rows (s : IVec S256 32) : IVec S256x1 32 := broadcastInDim S256x1 ![0] bcast_S256_S256x1_0
  (select (cmpi .slt s (broadcastInDim S256 ![] bcast_S_S256 (constantI S_ 32 0#32)))
    (addi s (broadcastInDim S256 ![] bcast_S_S256 (constantI S_ 32 256#32))) s)

/-- Whether the row is one of the table's. -/
def inside (r : IVec S256x1 32) : IVec S256x1 1 :=
  andi (cmpi .sge r (broadcastInDim S256x1 ![] bcast_S_S256x1 (constantI S_ 32 0#32)))
    (cmpi .sle r (broadcastInDim S256x1 ![0, 1] bcast_S1x1_S256x1_0_1 (broadcastInDim S1x1 ![1] bcast_S1_S1x1_1 (constantI S1 32 255#32))))

/-- The same, of each row of the result. -/
def allInside (r : IVec S256x1 32) : IVec S256 1 :=
  Host.reduce IntOp.andi (inside r) (constantI S_ 1 1#1) reducesTo_S256x1_S256_d1 h_S_

/-- The rows taken from the table. -/
def taken (y : IVec S256x32 32) (r : IVec S256x1 32) : IVec S256x32 32 :=
  select (broadcastInDim S256x32 ![0] bcast_S256_S256x32_0 (allInside r))
    (Host.gather gather_S256x32_S256x1_S256x32_1_0_n_n_0_1_132 y r) (broadcastInDim S256x32 ![] bcast_S_S256x32 (constantI S_ 32 2147483648#32))

/-- The first four of every sentence, one below the other. -/
def firsts (d : IVec S64x8 32) : IVec S256x1 32 :=
  shapeCast _ (extractStridedSlice S64x4 ![0, 0] d slices_S64x8_S64x4_0_0) shapeCasts_S64x4_S256x1

/-- The last result: the rows taken, each followed by its word. -/
def lines (y : IVec S256x32 32) (p : IVec S64x8 32) : IVec S256x33 32 :=
  concatenate S256x33 1 [⟨S256x32, taken y (rows (sources (beams p)))⟩, ⟨S256x1, firsts (terms p)⟩] concatenates_S256x32_S256x1_S256x33_d1

section read
variable {n : Fin 64 → Fin 8 → ℕ} {p : IVec S64x8 32} (hp : ∀ b j, p (ix2 b j) = BitVec.ofNat 32 (n b j)) (hn : ∀ b j, n b j < 100000)
include hp hn

/-- A position below 100000 is in beam 0. -/
theorem beams_apply (b : Fin 64) (j : Fin 8) : beams p (ix2 b j) = 0#32 := by
  refine (Routing.pyDiv_ap bcast_S_S64x8 p size (ix2 b j) (hp b j) (b := 100000) rfl ((hn b j).trans (by norm_num)) (by norm_num) (by norm_num)).trans ?_
  rw [Nat.div_eq_of_lt (hn b j)]

/-- And it is its word. -/
theorem terms_apply (b : Fin 64) (j : Fin 8) : terms p (ix2 b j) = BitVec.ofNat 32 (n b j) := by
  refine (Routing.pyRem_ap bcast_S_S64x8 p size (ix2 b j) (hp b j) (b := 100000) rfl ((hn b j).trans (by norm_num)) (by norm_num) (by norm_num)).trans ?_
  rw [Nat.mod_eq_of_lt (hn b j)]

end read

/-- A word below 256 counts as not negative. -/
theorem unsigned : ∀ k : Fin 256, Scalar.select (IntOp.cmpi .slt (BitVec.ofNat 32 k.val) 0#32)
    (IntOp.addi (BitVec.ofNat 32 k.val) 256#32) (BitVec.ofNat 32 k.val) = BitVec.ofNat 32 k.val := by decide +kernel

/-- And as one of the table's. -/
theorem bounded : ∀ k : Fin 256, IntOp.andi (IntOp.cmpi .sge (BitVec.ofNat 32 k.val) 0#32)
    (IntOp.cmpi .sle (BitVec.ofNat 32 k.val) 255#32) = 1#1 := by decide +kernel

/-- Sentence `b`'s rows of tokens start at `4b`. -/
theorem starts_apply (b : Fin 64) (j : Fin 4) : starts (ix2 b j) = BitVec.ofNat 32 (b.val * 4) := by
  pointwise [starts]
  exact (BitVec.ofNat_mul _ _).symm

section rows
variable {d : IVec S64x8 32} (hd : ∀ b j, d (ix2 b j) = 0#32)
include hd

/-- Each continues its sentence's first row. -/
theorem sources_apply (i : Fin 256) : sources d (ix1 i) = BitVec.ofNat 32 (i.val / 4 * 4) := by
  pointwise [sources]
  rw [hd, starts_apply]
  exact BitVec.add_zero _

/-- Which is not negative. -/
theorem rows_apply (i : Fin 256) : rows (sources d) (ix2 i 0) = BitVec.ofNat 32 (i.val / 4 * 4) := by
  pointwise [rows]
  rw [sources_apply hd]
  exact unsigned ⟨i.val / 4 * 4, by omega⟩

end rows

section table
variable {r : IVec S256x1 32} {k : Fin 256 → Fin 256} (hr : ∀ i, r (ix2 i 0) = BitVec.ofNat 32 (k i).val)
include hr

/-- A row number below 256 is one of the table's. -/
theorem inside_apply (i : Fin 256) : inside r (ix2 i 0) = 1#1 := by
  pointwise [inside]
  rw [hr]
  exact bounded (k i)

/-- So every row of the result is taken. -/
theorem allInside_apply (i : Fin 256) : allInside r (ix1 i) = 1#1 := by
  unfold allInside
  refine Host.reduce_andi_one _ _ _ _ _ rfl fun q => ?_
  idx_vars q
  obtain rfl : q1 = 0 := Subsingleton.elim _ _
  exact inside_apply hr q0

/-- The table's row is taken. -/
theorem taken_apply (y : IVec S256x32 32) (i : Fin 256) (l : Fin 32) : taken y r (ix2 i l) = y (ix2 (k i) l) := by
  have e : Host.gather gather_S256x32_S256x1_S256x32_1_0_n_n_0_1_132 y r (ix2 i l) = y (ix2 (k i) l) :=
    Routing.gather_row _ rfl rfl rfl rfl rfl y r i l (k i) (hr i) (by norm_num)
  pointwise [taken]
  rw [allInside_apply hr]
  exact e

end table

/-- Entry `i` is number `i mod 4` of sentence `i / 4`. -/
theorem firsts_apply (d : IVec S64x8 32) (i : Fin 256) :
    firsts d (ix2 i 0) = d (ix2 ⟨i.val / 4, by omega⟩ ⟨i.val % 4, by omega⟩) := by
  pointwise [firsts]

section lines
variable {n : Fin 64 → Fin 8 → ℕ} {p : IVec S64x8 32} (hp : ∀ b j, p (ix2 b j) = BitVec.ofNat 32 (n b j)) (hn : ∀ b j, n b j < 100000)
include hp hn

/-- The last result, read at an index. -/
theorem lines_apply (y : IVec S256x32 32) (i : Fin 256) (l : Fin 33) : lines y p (ix2 i l)
    = if hl : l.val < 32 then y (ix2 ⟨i.val / 4 * 4, by omega⟩ ⟨l.val, hl⟩)
      else BitVec.ofNat 32 (n ⟨i.val / 4, by omega⟩ ⟨i.val % 4, by omega⟩) := by
  have ht := taken_apply (k := fun i => ⟨i.val / 4 * 4, by omega⟩) (rows_apply (beams_apply hp hn)) y i
  have hf := (firsts_apply (terms p) i).trans (terms_apply hp hn _ _)
  pointwise [lines]
  split
  · exact ht _
  · rw [← hf]
    exact congrArg (fun k : Fin 1 => firsts (terms p) (ix2 i k)) (Subsingleton.elim _ _)

end lines

end Cert.Proof.Ref
-- ==== Proof.RefRun.lean ====
/- The reference's run, its four results named. -/
module

public import proofs.«01_k».proof.Proof.RefWords
public import proofs.«01_k».proof.Proof.Gen.ReferenceIdeal.Run

@[expose] public section

set_option maxRecDepth 16384

noncomputable section

namespace Cert.Proof.Ref

open Idealize.ShloMosaic Idealize.ShloMosaic.TcCoe Idealize.SL.Sem Cert.ReferenceIdeal Cert.ReferenceIdeal.Gen

/-- The first four values of every sentence, in one line. -/
def upper (v : FVec Ideal S64x8 .f32) : FVec Ideal S256 .f32 :=
  shapeCast _ (extractStridedSlice S64x4 ![0, 0] v slices_S64x8_S64x4_0_0) shapeCasts_S64x4_S256

/-- Entry `i` is value `i mod 4` of sentence `i / 4`. -/
theorem upper_apply (v : FVec Ideal S64x8 .f32) (i : Fin 256) :
    upper v (ix1 i) = v (ix2 ⟨i.val / 4, by omega⟩ ⟨i.val % 4, by omega⟩) := by
  pointwise [upper]

variable (m : (ℓ : Loc nD τ sig) → Buf (Elt Ideal) ℓ) (ρ : Dev nD → PrngReg)

/-- The last result is the rows of tokens with their words. -/
theorem last_eq (c : Dev nD) : Value.res_main_v19 m c
    = lines (m ((c.tc : Thread nD τ).loc main_arg2)) (top (m ((c.tc : Thread nD τ).loc main_arg0)) (m ((c.tc : Thread nD τ).loc main_arg1))).2 := rfl

/-- Every run of the reference ends with the list of the eight greatest totals, their positions, the first four totals and
    the rows of tokens, the arguments unchanged. -/
theorem run : θ_run defs (onTc (τ := τ) (main (F := Ideal))) ⟨m, fun _ => 0, ρ⟩ (fun r => ∀ c : Dev nD,
      r.2.mem ((c.tc : Thread nD τ).loc main_values) = (top (m ((c.tc : Thread nD τ).loc main_arg0)) (m ((c.tc : Thread nD τ).loc main_arg1))).1
      ∧ r.2.mem ((c.tc : Thread nD τ).loc main_indices) = (top (m ((c.tc : Thread nD τ).loc main_arg0)) (m ((c.tc : Thread nD τ).loc main_arg1))).2
      ∧ r.2.mem ((c.tc : Thread nD τ).loc main_v20) = upper (top (m ((c.tc : Thread nD τ).loc main_arg0)) (m ((c.tc : Thread nD τ).loc main_arg1))).1
      ∧ r.2.mem ((c.tc : Thread nD τ).loc main_v19) = lines (m ((c.tc : Thread nD τ).loc main_arg2)) (top (m ((c.tc : Thread nD τ).loc main_arg0)) (m ((c.tc : Thread nD τ).loc main_arg1))).2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans rfl, (h c).2.1.trans rfl, (h c).2.2.1.trans rfl,
    (h c).2.2.2.1.trans (last_eq m c), (h c).2.2.2.2⟩) (Value.run m ρ)

end Cert.Proof.Ref
-- ==== Proof.Equation.lean ====
/- The equation: for arguments as the precondition asks, the kernel's four results are the reference's. -/
module

public import proofs.«01_k».proof.Proof.KernelOut
public import proofs.«01_k».proof.Proof.RefRun

@[expose] public section

set_option maxRecDepth 16384

noncomputable section

namespace Cert.Proof

open Cert.KernelIdeal Cert.KernelIdeal.Gen Idealize.ShloMosaic Idealize.ShloMosaic.TcCoe

variable (m : (ℓ : Loc nD τ sig) → Buf (Elt Ideal) ℓ) (ρ : Dev nD → PrngReg) (c : Dev nD)
  {x : FVec Ideal S256x100000 .f32} {bs : FVec Ideal S256 .f32} {y : IVec S256x32 32} (h : Ref.Drawn x bs)
  (hx : m ((c.tc : Thread nD τ).loc main_arg0) = x) (hb : m ((c.tc : Thread nD τ).loc main_arg1) = bs)
  (hy : m ((c.tc : Thread nD τ).loc main_arg2) = y)
include h hx hb

/-- The eight totals. -/
theorem result0 : (W5 m ρ c (Proc.devRef .tc main_v8_0) : FVec Ideal S64x8 .f32) = (Ref.top x bs).1 := by
  subst hx hb
  refine (Merge.W5_0 m ρ c h.sound).trans (funext fun i => ?_)
  idx_vars i
  exact (Ref.top_value h i0 i1).symm

/-- Their positions. -/
theorem result1 : (W5 m ρ c (Proc.devRef .tc main_v8_1) : IVec S64x8 32) = (Ref.top x bs).2 := by
  subst hx hb
  refine (Merge.W5_1 m ρ c h.sound).trans (funext fun i => ?_)
  idx_vars i
  exact (Ref.top_word h i0 i1).symm

/-- The first four totals of every sentence. -/
theorem result2 : (W5 m ρ c (Proc.devRef .tc main_v9) : FVec Ideal S256 .f32) = Ref.upper (Ref.top x bs).1 := by
  subst hx hb
  funext i
  idx_vars i
  exact (Merge.W5_2 m ρ c h.sound i0).trans ((Ref.upper_apply _ i0).trans (Ref.top_value h _ _)).symm

include hy in
/-- The rows of tokens with their words. -/
theorem result3 : (W5 m ρ c (Proc.devRef .tc main_v10) : IVec S256x33 32) = Ref.lines y (Ref.top x bs).2 := by
  subst hx hb hy
  funext i
  idx_vars i
  exact (Merge.W5_3 m ρ c h.sound i0 i1).trans
    (Ref.lines_apply (n := fun b j => Merge.word _ b j.val) (fun b j => Ref.top_word h b j) (fun _ _ => Scan.place_lt _) _ i0 i1).symm

end Cert.Proof
-- ==== Proof.Drawn.lean ====
/- What the printed precondition says of the arguments. -/
module

public import proofs.«01_k».proof.Proof.Gen.Pre_drawn
public import proofs.«01_k».proof.Proof.RefRank
public import Idealize.ShloMosaic.Lib.ReduceAll

@[expose] public section

set_option maxRecDepth 16384

noncomputable section

namespace Cert.Proof.Drawn

open Idealize.ShloMosaic Cert.Pre_drawn Cert.Pre_drawn.Gen

variable (x : FVec Ideal S256x100000 .f32) (bs : FVec Ideal S256 .f32)

/-- A sentence's beams side by side. -/
def beside : FVec Ideal S64x4 .f32 := shapeCast S64x4 bs shapeCasts_S256_S64x4

/-- Which scores are bounded. -/
def bounded : IVec S256x100000 1 :=
  cmpf .ole (Host.absf x) (broadcastInDim S256x100000 ![] bcast_S_S256x100000 (constant S_ .f32 0x4DBEBC20#32))

/-- Which sentences' beam 0 has a bounded score. -/
def finite : IVec S64 1 :=
  cmpf .ole (Host.absf (shapeCast S64 (extractStridedSlice S64x1 ![0, 0] (beside bs) slices_S64x4_S64x1_0_0) shapeCasts_S64x1_S64))
    (broadcastInDim S64 ![] bcast_S_S64 (constant S_ .f32 0x7149F2CA#32))

/-- Which other beams are far below beam 0. -/
def apart : IVec S64x3 1 :=
  cmpf .ole (addf (extractStridedSlice S64x3 ![0, 1] (beside bs) slices_S64x4_S64x3_0_1)
      (broadcastInDim S64x3 ![] bcast_S_S64x3 (constant S_ .f32 0x4E6E6B28#32)))
    (broadcastInDim S64x3 ![0, 1] bcast_S64x1_S64x3_0_1 (extractStridedSlice S64x1 ![0, 0] (beside bs) slices_S64x4_S64x1_0_0))

/-- The precondition is that all three hold everywhere. -/
theorem parts (y : IVec S256x32 32) : fn (F := Ideal) x bs y
    = andi (andi (Host.reduce IntOp.andi (bounded x) (constantI S_ 1 1#1) reducesTo_S256x100000_S_d0_1 h_S_)
        (Host.reduce IntOp.andi (finite bs) (constantI S_ 1 1#1) reducesTo_S64_S_d0 h_S_))
      (Host.reduce IntOp.andi (apart bs) (constantI S_ 1 1#1) reducesTo_S64x3_S_d0_1 h_S_) := rfl

/-- The precondition is one word. -/
instance : Subsingleton S_.Idx := ⟨fun _ _ => funext fun a => a.elim0⟩

/-- A comparison that holds. -/
theorem le_of_cmp {a b : EReal} (h : Ideal.cmp .ole a b = 1#1) : a ≤ b :=
  decide_eq_true_iff.mp ((StableHlo.Predicate.ofBool_eq_one_iff _).mp h)

/-- A number of bounded size is real. -/
theorem real_of_abs {a : EReal} {C : ℝ} (h : max a (-a) ≤ (C : EReal)) : ∃ f : ℝ, a = (f : EReal) ∧ -C ≤ f ∧ f ≤ C := by
  obtain ⟨h1, h2⟩ := max_le_iff.mp h
  induction a using EReal.rec with
  | bot => exact absurd h2 (by simp)
  | top => exact absurd h1 (by simp)
  | coe f =>
    rw [← EReal.coe_neg] at h2
    exact ⟨f, rfl, by have := EReal.coe_le_coe_iff.mp h2; linarith, EReal.coe_le_coe_iff.mp h1⟩

/-- A score is marked if its size is at most 400000000. -/
theorem bounded_apply (r : Fin 256) (v : Fin 100000) :
    bounded x (ix2 r v) = Ideal.cmp .ole (max (x (ix2 r v)) (-(x (ix2 r v)))) ((400000000 : ℝ) : EReal) := by
  pointwise [bounded]
  rw [ofBits_4e8]
  rfl

/-- A sentence is marked if its beam 0's score is at most the printed 1e30 in size. -/
theorem finite_apply (b : Fin 64) : finite bs (ix1 b)
    = Ideal.cmp .ole (max (bs (ix1 ⟨b.val * 4, by omega⟩)) (-(bs (ix1 ⟨b.val * 4, by omega⟩)))) ((13234890 * 2 ^ 76 : ℝ) : EReal) := by
  pointwise [finite, beside]
  rw [ofBits_1e30]
  rfl

/-- A later beam is marked if its score plus 1000000000 is at most beam 0's. -/
theorem apart_apply (b : Fin 64) (k : Fin 3) : apart bs (ix2 b k)
    = Ideal.cmp .ole (bs (ix1 ⟨b.val * 4 + (1 + k.val), by omega⟩) + ((1000000000 : ℝ) : EReal)) (bs (ix1 ⟨b.val * 4, by omega⟩)) := by
  pointwise [apart, beside]
  rw [ofBits_1e9]

/-- The precondition gives what the equation asks of the arguments. -/
theorem drawn_of_pre (y : IVec S256x32 32) (h : fn (F := Ideal) x bs y = fun _ => 1#1) : Ref.Drawn x bs := by
  rw [parts] at h
  obtain ⟨h12, h3⟩ := IntOp.andi_eq_one.mp (congrFun h (fun a => a.elim0))
  obtain ⟨h1, h2⟩ := IntOp.andi_eq_one.mp h12
  refine ⟨fun r v => ?_, fun b => ?_, fun b k hk => ?_⟩
  · exact real_of_abs (le_of_cmp ((bounded_apply x r v).symm.trans (Host.reduce_andi_all _ _ _ _ _ h1 _)))
  · obtain ⟨s, hs, -⟩ := real_of_abs (le_of_cmp ((finite_apply bs b).symm.trans (Host.reduce_andi_all _ _ _ _ _ h2 _)))
    exact ⟨s, hs⟩
  · have e := le_of_cmp ((apart_apply bs b ⟨k.val - 1, by omega⟩).symm.trans (Host.reduce_andi_all _ _ _ _ _ h3 _))
    have hi : (⟨b.val * 4 + (1 + (k.val - 1)), by omega⟩ : Fin 256) = ⟨b.val * 4 + k.val, by omega⟩ := Fin.ext (by dsimp only; omega)
    rw [← hi]
    exact e

end Cert.Proof.Drawn
-- ==== Proof.lean ====
/- The certificate's proof: the frames of the kernel, of its exact reading and of the reference, that the exact reading
   rewrote nothing, and that over the extended reals the kernel's four results are the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_drawn
public import proofs.«01_k».proof.Proof.KernelRun
public import proofs.«01_k».proof.Proof.Equation
public import proofs.«01_k».proof.Proof.Drawn

@[expose] public section

noncomputable section

namespace Cert.Proof

open Idealize.ShloMosaic Idealize.SL.Sem

/-- The reference ends with its arguments unchanged and every counter at zero. -/
theorem frame_reference : Cert.quiescent_ReferenceIdeal (hReferenceIdeal := Cert.ReferenceIdeal.Gen.facts) := by
  intro m ρ _
  exact (θ_run Cert.ReferenceIdeal.defs _ _).mono
    (fun r h => ⟨fun c => ⟨(h c).2.2.2.2.1, (h c).2.2.2.2.2.1, (h c).2.2.2.2.2.2⟩,
      Idealize.ShloMosaic.sem_eq_zero_of_no_sems (by decide) r.2⟩) (Cert.ReferenceIdeal.Value.run m ρ)

/-- For arguments as the precondition asks, the kernel and the reference end with the same four results. -/
theorem algebraic : Cert.algebraic_KernelIdeal_ReferenceIdeal_pre_drawn (hKernelIdeal := Cert.KernelIdeal.Gen.facts)
    (hReferenceIdeal := Cert.ReferenceIdeal.Gen.facts) (hPre_drawn := Cert.Pre_drawn.Gen.facts) := by
  intro m g m' g' hpre hargs
  have hd := fun c => Drawn.drawn_of_pre _ _ _ (hpre c)
  refine ⟨_, _, _, _, KernelRun.run m g, (θ_run Cert.ReferenceIdeal.defs _ _).mono (fun r h c => ?_) (Ref.run m' g')⟩
  obtain ⟨a0, a1, a2⟩ := hargs c
  obtain ⟨h0, h1, h2, h3, hrest⟩ := h c
  rw [a0, a1] at h0 h1 h2 h3
  rw [a2] at h3
  exact ⟨h0.trans (result0 m g c (hd c) rfl rfl).symm, h1.trans (result1 m g c (hd c) rfl rfl).symm,
    h2.trans (result2 m g c (hd c) rfl rfl).symm, h3.trans (result3 m g c (hd c) rfl rfl rfl).symm, hrest⟩

/-- Everything the certificate claims. -/
theorem claim : Cert.Claim :=
  ⟨Cert.Kernel.Gen.facts, Cert.KernelIdeal.Gen.facts, Cert.ReferenceIdeal.Gen.facts, Cert.Pre_drawn.Gen.facts,
    fun m ρ _ => Cert.Kernel.Gen.frame m ρ, fun m ρ _ => Cert.KernelIdeal.Gen.frame m ρ,
    fun m ρ _ => Cert.KernelIdeal.Gen.frame m ρ, frame_reference,
    fun m ρ _ => frame_reference m ρ trivial, trivial, algebraic⟩

end Cert.Proof

end
